-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x8192 : Shape := ⟨2, ![1, 8192]⟩
abbrev S64x256x1 : Shape := ⟨3, ![64, 256, 1]⟩
abbrev S256x32 : Shape := ⟨2, ![256, 32]⟩
abbrev S1024x32 : Shape := ⟨2, ![1024, 32]⟩
abbrev S256x1 : Shape := ⟨2, ![256, 1]⟩
abbrev S1x1024 : Shape := ⟨2, ![1, 1024]⟩
abbrev S1x256x1 : Shape := ⟨3, ![1, 256, 1]⟩
abbrev S256x1024 : Shape := ⟨2, ![256, 1024]⟩
abbrev S256 : Shape := ⟨1, ![256]⟩
abbrev S1x1 : Shape := ⟨2, ![1, 1]⟩
abbrev S1x256x32 : Shape := ⟨3, ![1, 256, 32]⟩
abbrev S1 : Shape := ⟨1, ![1]⟩
abbrev S1x1x1 : Shape := ⟨3, ![1, 1, 1]⟩
abbrev S16x1024 : Shape := ⟨2, ![16, 1024]⟩

abbrev nBuf : Space → Nat
  | .hbm => 20
  | .vmem => 23
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S64x256x1, .i32⟩
  | .hbm, ⟨13, _⟩ => ⟨S16384x32, .f32⟩
  | .hbm, ⟨14, _⟩ => ⟨S1x1, .f32⟩
  | .hbm, ⟨15, _⟩ => ⟨S16x1024x32, .f32⟩
  | .hbm, ⟨16, _⟩ => ⟨S16x1024, .i32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x32, .f32⟩
  | .local _ .vmem, ⟨1, _⟩ => ⟨S256x32, .f32⟩
  | .local _ .vmem, ⟨2, _⟩ => ⟨S1024x32, .f32⟩
  | .local _ .vmem, ⟨3, _⟩ => ⟨S1024x32, .f32⟩
  | .local _ .vmem, ⟨4, _⟩ => ⟨S256x1, .f32⟩
  | .local _ .vmem, ⟨5, _⟩ => ⟨S256x1, .f32⟩
  | .local _ .vmem, ⟨6, _⟩ => ⟨S1x1024, .f32⟩
  | .local _ .vmem, ⟨7, _⟩ => ⟨S1x1024, .f32⟩
  | .local _ .vmem, ⟨8, _⟩ => ⟨S1x256x1, .i32⟩
  | .local _ .vmem, ⟨9, _⟩ => ⟨S1x256x1, .i32⟩
  | .local _ .vmem, ⟨10, _⟩ => ⟨S256x1, .f32⟩
  | .local _ .vmem, ⟨11, _⟩ => ⟨S256x1, .i32⟩
  | .local _ .vmem, ⟨12, _⟩ => ⟨S256x1, .f32⟩
  | .local _ .vmem, ⟨13, _⟩ => ⟨S256x1, .i32⟩
  | .local _ .vmem, ⟨14, _⟩ => ⟨S1x256x1, .i32⟩
  | .local _ .vmem, ⟨15, _⟩ => ⟨S1x256x1, .i32⟩
  | .local _ .vmem, ⟨16, _⟩ => ⟨S256x32, .f32⟩
  | .local _ .vmem, ⟨17, _⟩ => ⟨S256x32, .f32⟩
  | .local _ .vmem, ⟨18, _⟩ => ⟨S1024x32, .f32⟩
  | .local _ .vmem, ⟨19, _⟩ => ⟨S1024x32, .f32⟩
  | .local _ .vmem, ⟨20, _⟩ => ⟨S256x32, .f32⟩
  | .local _ .vmem, ⟨21, _⟩ => ⟨S256x32, .f32⟩
  | .local _ .vmem, ⟨22, _⟩ => ⟨S1x1, .f32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18

abbrev nD : Nat := 1
abbrev τ : Topo := Topo.v7x

variable {F : FTy → Type} [FloatOps F]

abbrev grid0 : Pipeline.Grid := ⟨2, ![64, 8], ![false, false]⟩

def k0_cond4 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![64, 8], ![false, false]⟩

def k1_cond2 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_9 : BitVec 32 := 0#32
  let v21 : BitVec 1 := Scalar.cmpi .ne v20 c0_i32_9
  v21

def k1_cond3 (i : grid1.Coords) : BitVec 1 :=
  let arg0 : BitVec 32 := BitVec.ofNat 32 (i 0).val
  let c0_i32_17 : BitVec 32 := 0#32
  let v36 : BitVec 1 := Scalar.cmpi .eq arg0 c0_i32_17
  let v37 : BitVec 32 := Scalar.extui v36
  let c0_i32_18 : BitVec 32 := 0#32
  let v38 : BitVec 1 := Scalar.cmpi .ne v37 c0_i32_18
  v38

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x8192 : Shape := ⟨2, ![1, 8192]⟩
abbrev S32x8192 : Shape := ⟨2, ![32, 8192]⟩
abbrev S16384x8192 : Shape := ⟨2, ![16384, 8192]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S32x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .f32⟩
  | .hbm, ⟨22, _⟩ => ⟨S16384x8192, .i32⟩
  | .hbm, ⟨23, _⟩ => ⟨S_, .f32⟩
  | .hbm, ⟨24, _⟩ => ⟨S_, .i32⟩
  | .hbm, ⟨25, _⟩ => ⟨S16384, .f32⟩
  | .hbm, ⟨26, _⟩ => ⟨S16384, .i32⟩
  | .hbm, ⟨27, _⟩ => ⟨S16x1024, .i32⟩
  | .hbm, ⟨28, _⟩ => ⟨S_, .i32⟩
  | .hbm, ⟨29, _⟩ => ⟨S16x1024, .i32⟩
  | .hbm, ⟨30, _⟩ => ⟨S16x1024, .i1⟩
  | .hbm, ⟨31, _⟩ => ⟨S_, .i32⟩
  | .hbm, ⟨32, _⟩ => ⟨S16x1024, .i32⟩
  | .hbm, ⟨33, _⟩ => ⟨S16x1024, .i32⟩
  | .hbm, ⟨34, _⟩ => ⟨S16x1024, .i32⟩
  | .hbm, ⟨35, _⟩ => ⟨S16x1024x1, .i32⟩
  | .hbm, ⟨36, _⟩ => ⟨S1, .i32⟩
  | .hbm, ⟨37, _⟩ => ⟨S_, .i32⟩
  | .hbm, ⟨38, _⟩ => ⟨S16x1024x1, .i32⟩
  | .hbm, ⟨39, _⟩ => ⟨S16x1024x1, .i1⟩
  | .hbm, ⟨40, _⟩ => ⟨S1x1x1, .i32⟩
  | .hbm, ⟨41, _⟩ => ⟨S16x1024x1, .i32⟩
  | .hbm, ⟨42, _⟩ => ⟨S16x1024x1, .i1⟩
  | .hbm, ⟨43, _⟩ => ⟨S16x1024x1, .i1⟩
  | .hbm, ⟨44, _⟩ => ⟨S_, .i1⟩
  | .hbm, ⟨45, _⟩ => ⟨S16x1024, .i1⟩
  | .hbm, ⟨46, _⟩ => ⟨S16x1024x32, .f32⟩
  | .hbm, ⟨47, _⟩ => ⟨S16x1024x32, .i1⟩
  | .hbm, ⟨48, _⟩ => ⟨S_, .f32⟩
  | .hbm, ⟨49, _⟩ => ⟨S16x1024x32, .f32⟩
  | .hbm, ⟨50, _⟩ => ⟨S16x1024x32, .f32⟩
  | .hbm, ⟨51, _⟩ => ⟨S16x1024x32, .f32⟩
  | .hbm, ⟨52, _⟩ => ⟨S16x1024x32, .f32⟩
  | .hbm, ⟨53, _⟩ => ⟨S16x1024x32, .f32⟩
  | .hbm, ⟨54, _⟩ => ⟨S16x1024x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_v18 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩

abbrev nD : Nat := 1
abbrev τ : Topo := Topo.v7x

variable {F : FTy → Type} [FloatOps F]
-- ==== Proof.LookupBody.lean ====
/- What one grid point of the second call computes (the lookup of the chosen codes): the body, run on whole staging
   buffers, leaves the running lookup and the running sum of squares at named values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Lookup

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem offs2 : (![0, 0] : Fin 2 → Nat) = fun _ => 0 := funext fun a => by fin_cases a <;> rfl
theorem offs3 : (![0, 0, 0] : Fin 3 → Nat) = fun _ => 0 := funext fun a => by fin_cases a <;> rfl

/-- The point is the first of its row block: the running lookup is reset. -/
abbrev first (i : grid1.Coords) : Prop := (Scalar.cmpi .ne (Scalar.extui (Scalar.cmpi .eq (BitVec.ofNat 32 (i 1).val) 0#32)) 0#32) = 1#1

theorem first_iff : ∀ t : Fin cfg1.N, first (grid1.coords t) ↔ t.val % 8 = 0 :=
  (fun t => by
    have ht : t.val < 512 := Nat.lt_of_lt_of_eq t.isLt N_1
    have e0 : (grid1.coords t 0).val = t.val / 8 % 64 := Pipeline.Grid.coords_val t 0 (by decide) rfl
    have e1 : (grid1.coords t 1).val = t.val / 1 % 8 := Pipeline.Grid.coords_val t 1 (by decide) rfl
    simp only [first, e0, e1]
    word_cmp : ∀ t : Fin grid1.N, first (grid1.coords t) ↔ t.val % 8 = 0)

/-- The point is the last of its row block: the lookup is finished and its squares are added up. -/
theorem last_iff : ∀ t : Fin cfg1.N, k1_cond2 (grid1.coords t) = 1#1 ↔ t.val % 8 = 7 :=
  (fun t => by
    have ht : t.val < 512 := Nat.lt_of_lt_of_eq t.isLt N_1
    have e0 : (grid1.coords t 0).val = t.val / 8 % 64 := Pipeline.Grid.coords_val t 0 (by decide) rfl
    have e1 : (grid1.coords t 1).val = t.val / 1 % 8 := Pipeline.Grid.coords_val t 1 (by decide) rfl
    simp only [k1_cond2, e0, e1]
    word_cmp : ∀ t : Fin grid1.N, k1_cond2 (grid1.coords t) = 1#1 ↔ t.val % 8 = 7)

/-- The row block is the first one: the running sum of squares is reset. -/
theorem start_iff : ∀ t : Fin cfg1.N, k1_cond3 (grid1.coords t) = 1#1 ↔ t.val < 8 :=
  (fun t => by
    have ht : t.val < 512 := Nat.lt_of_lt_of_eq t.isLt N_1
    have e0 : (grid1.coords t 0).val = t.val / 8 % 64 := Pipeline.Grid.coords_val t 0 (by decide) rfl
    have e1 : (grid1.coords t 1).val = t.val / 1 % 8 := Pipeline.Grid.coords_val t 1 (by decide) rfl
    simp only [k1_cond3, e0, e1]
    word_cmp : ∀ t : Fin grid1.N, k1_cond3 (grid1.coords t) = 1#1 ↔ t.val < 8)

section Body

variable (c : Dev nD) (i : grid1.Coords) (arg2 : Memref sig .tc .vmem S1x256x1 .i32) (harg2 : arg2.IsWhole) (arg3 : Memref sig .tc .vmem S256x32 .f32) (harg3 : arg3.IsWhole) (arg4 : Memref sig .tc .vmem S1024x32 .f32) (harg4 : arg4.IsWhole) (arg5 : Memref sig .tc .vmem S256x32 .f32) (harg5 : arg5.IsWhole) (arg6 : Memref sig .tc .vmem S1x1 .f32) (harg6 : arg6.IsWhole)
  (x0 : Vec F S1x256x1 .i32) (x1 : Vec F S256x32 .f32) (x2 : Vec F S1024x32 .f32) (q : Vec F S256x32 .f32) (d : Vec F S1x1 .f32)

/-- The five staging buffers of the body, each whole, the two results' at `q` and `d`. -/
abbrev bufs (c : Dev nD) (arg2 : Memref sig .tc .vmem S1x256x1 .i32) (arg3 : Memref sig .tc .vmem S256x32 .f32) (arg4 : Memref sig .tc .vmem S1024x32 .f32) (arg5 : Memref sig .tc .vmem S256x32 .f32) (arg6 : Memref sig .tc .vmem S1x1 .f32)
    (x0 : Vec F S1x256x1 .i32) (x1 : Vec F S256x32 .f32) (x2 : Vec F S1024x32 .f32) (q : Vec F S256x32 .f32) (d : Vec F S1x1 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare q ∗ owns (c : Thread nD τ) arg6 fullShare d)

set_option maxHeartbeats 1000000 in
/-- The first point of a row block: the lookup starts again from zero. -/
theorem body_first (hc0 : first i) (hc1 : ¬k1_cond2 i = 1#1) (E : Set ℕ) (K : PUnit → sProp 𝕄) :
    iprop(bufs c arg2 arg3 arg4 arg5 arg6 x0 x1 x2 q d
        ∗ (bufs c arg2 arg3 arg4 arg5 arg6 x0 x1 x2 (k1_pay2 i x0 x2 k1_pay1) (d) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold bufs owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S256x32.size (by sl_kernel_rfl))]
    sl_unfold_words
    rw [View.canon_cons_unit_zero (S := S256x32) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]
  · iexists _; isplitr
    swap; · iexact H4
    ipureintro
    exact harg6.read_unread _

set_option maxHeartbeats 1000000 in
/-- A point in the middle of a row block adds its chunk of the lookup. -/
theorem body_middle (hc0 : ¬first i) (hc1 : ¬k1_cond2 i = 1#1) (E : Set ℕ) (K : PUnit → sProp 𝕄) :
    iprop(bufs c arg2 arg3 arg4 arg5 arg6 x0 x1 x2 q d
        ∗ (bufs c arg2 arg3 arg4 arg5 arg6 x0 x1 x2 (k1_pay2 i x0 x2 q) (d) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold bufs owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S256x32.size (by sl_kernel_rfl))]
    sl_unfold_words
    rw [View.canon_unit_zero (S := S256x32) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]
  · iexists _; isplitr
    swap; · iexact H4
    ipureintro
    exact harg6.read_unread _

set_option maxHeartbeats 1000000 in
/-- The last point of the first row block: the lookup is finished; the sum of squares starts from zero. -/
theorem body_last_start (hc0 : ¬first i) (hc1 : k1_cond2 i = 1#1) (hc2 : k1_cond3 i = 1#1) (E : Set ℕ) (K : PUnit → sProp 𝕄) :
    iprop(bufs c arg2 arg3 arg4 arg5 arg6 x0 x1 x2 q d
        ∗ (bufs c arg2 arg3 arg4 arg5 arg6 x0 x1 x2 (k1_pay5 x1 (k1_pay2 i x0 x2 q)) (k1_pay7 x1 (k1_pay2 i x0 x2 q) k1_pay6) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold bufs owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S256x32.size (by sl_kernel_rfl))]
    sl_unfold_words
    rw [View.canon_cons_unit_zero (S := S256x32) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]
  · iexists _; isplitr
    swap; · iexact H4
    ipureintro
    rw [View.read_writes_eq_canon _ _ _ (View.cover_of_tiledL _ S1x1.size (by sl_kernel_rfl))]
    sl_unfold_words
    rw [View.canon_cons_unit_zero (S := S1x1) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]

set_option maxHeartbeats 1000000 in
/-- The last point of a later row block: the lookup is finished; its squares are added. -/
theorem body_last (hc0 : ¬first i) (hc1 : k1_cond2 i = 1#1) (hc2 : ¬k1_cond3 i = 1#1) (E : Set ℕ) (K : PUnit → sProp 𝕄) :
    iprop(bufs c arg2 arg3 arg4 arg5 arg6 x0 x1 x2 q d
        ∗ (bufs c arg2 arg3 arg4 arg5 arg6 x0 x1 x2 (k1_pay5 x1 (k1_pay2 i x0 x2 q)) (k1_pay7 x1 (k1_pay2 i x0 x2 q) d) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold bufs owns
  iintro ⟨⟨⟨%f0, %hf0, H0⟩, ⟨%f1, %hf1, H1⟩, ⟨%f2, %hf2, H2⟩, ⟨%f3, %hf3, H3⟩, ⟨%f4, %hf4, H4⟩⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiledL _ S256x32.size (by sl_kernel_rfl))]
    sl_unfold_words
    rw [View.canon_cons_unit_zero (S := S256x32) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]
  · iexists _; isplitr
    swap; · iexact H4
    ipureintro
    rw [View.read_writes_eq_canon _ _ _ (View.cover_of_tiledL _ S1x1.size (by sl_kernel_rfl))]
    sl_unfold_words
    rw [View.canon_unit_zero (S := S1x1) offs2]
    simp only [View.readCov_unit_zero (S := S256x32) _ offs2, View.readCov_unit_zero (S := S1x1) _ offs2, View.readAt_eq_ld, harg2.read_unread, harg3.read_unread, harg4.read_unread, harg5.read_unread, harg6.read_unread, View.ld_unit_zero (S := S256x32) offs2, View.ld_unit_zero (S := S1x1) offs2, View.ld_unit_zero (S := S1024x32) offs2, View.ld_unit_zero (S := S1x256x1) offs3]

end Body

end Cert.KernelIdeal.Lookup

end
-- ==== Proof.LookupRegion.lean ====
/- The second call as a pipeline: what every staging buffer holds at every grid point, from the contents the call finds
   its arrays at, and the proof that the body takes each point to the next. -/
module

public import proofs.«01_k».proof.Proof.LookupBody

@[expose] public section

set_option maxRecDepth 16384

noncomputable section

namespace Cert.KernelIdeal.Lookup

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The `n`-th grid point (taken round past the last). -/
def pt (n : ℕ) : Fin cfg1.N := ⟨n % 512, lt_of_lt_of_eq (Nat.mod_lt _ (by decide)) N_1.symm⟩

theorem pt_val (t : Fin cfg1.N) : pt t.val = t :=
  Fin.ext (Nat.mod_eq_of_lt (lt_of_lt_of_eq t.isLt N_1))

section

variable (V : Dev nD → Valuation τ sig (Elt F)) (c : Dev nD)

/-- Window `w`'s block at point `t`, of the contents the call finds. -/
def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chosen indices, the rows and the codes the body reads at point `t`. -/
abbrev idxBlk (t : Fin cfg1.N) : Vec F S1x256x1 .i32 := iblk V c 0 t
abbrev rowBlk (t : Fin cfg1.N) : Vec F S256x32 .f32 := iblk V c 1 t
abbrev codeBlk (t : Fin cfg1.N) : Vec F S1024x32 .f32 := iblk V c 2 t

/-- The running lookup after point `n`: reset at the first point of a row block. -/
def look : ℕ → Vec F S256x32 .f32
  | 0 => k1_pay2 (grid1.coords (pt 0)) (idxBlk V c (pt 0)) (codeBlk V c (pt 0)) k1_pay1
  | n + 1 => k1_pay2 (grid1.coords (pt (n + 1))) (idxBlk V c (pt (n + 1))) (codeBlk V c (pt (n + 1)))
      (if (n + 1) % 8 = 0 then k1_pay1 else look n)

theorem look_reset (n : ℕ) (h : n % 8 = 0) :
    look V c n = k1_pay2 (grid1.coords (pt n)) (idxBlk V c (pt n)) (codeBlk V c (pt n)) k1_pay1 := by
  cases n with
  | zero => rfl
  | succ n => rw [look, if_pos h]

theorem look_step (n : ℕ) (h : ¬ n % 8 = 0) :
    look V c n = k1_pay2 (grid1.coords (pt n)) (idxBlk V c (pt n)) (codeBlk V c (pt n)) (look V c (n - 1)) := by
  cases n with
  | zero => exact absurd rfl h
  | succ n => rw [look, if_neg h]; rfl

/-- What the lookup's buffer holds after point `n`: at the last point of a row block the finished block. -/
def lookOut (n : ℕ) : Vec F S256x32 .f32 :=
  if n % 8 = 7 then k1_pay5 (rowBlk V c (pt n)) (look V c n) else look V c n

/-- The sum of squares over the first `r` row blocks. -/
def sumSq : ℕ → Vec F S1x1 .f32
  | 0 => k1_pay6
  | r + 1 => k1_pay7 (rowBlk V c (pt (8 * r + 7))) (look V c (8 * r + 7)) (sumSq r)

/-- The proof data of the second call. -/
def dat : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => lookOut V c t.val
    | ⟨4, _⟩ => sumSq V c ((t.val + 1) / 8)
  Φ _ := Pipeline.scopedRest spec1 c
  q _ := fullShare
  owed _ := 0

theorem dat_A (w : Fin cfg1.W) : (dat V c).A w = V c (Pipeline.arrRef spec1 w) := by
  dsimp only [dat]
theorem after_0 (t : Fin cfg1.N) : (dat V c).after 0 t = iblk V c 0 t := by dsimp only [dat]
theorem after_1 (t : Fin cfg1.N) : (dat V c).after 1 t = iblk V c 1 t := by dsimp only [dat]
theorem after_2 (t : Fin cfg1.N) : (dat V c).after 2 t = iblk V c 2 t := by dsimp only [dat]
theorem after_3 (t : Fin cfg1.N) : (dat V c).after 3 t = lookOut V c t.val := by dsimp only [dat]
theorem after_4 (t : Fin cfg1.N) : (dat V c).after 4 t = sumSq V c ((t.val + 1) / 8) := by dsimp only [dat]

/-! ## What each buffer holds before the body -/

theorem before_0 (t : Fin cfg1.N) (d) : (dat V c).before 0 t d = iblk V c 0 t :=
  ((dat V c).before_in_eq_fetched 0 rfl (fun _ => rfl) (fun _ _ _ => rfl)
    (fun t => by rw [after_0]; unfold Dat.blockOf iblk; rw [dat_A]; try rfl) t d).trans
    (by unfold Dat.fetched Dat.blockOf iblk; rw [dat_A]; try rfl)
theorem before_1 (t : Fin cfg1.N) (d) : (dat V c).before 1 t d = iblk V c 1 t :=
  ((dat V c).before_in_eq_fetched 1 rfl (fun _ => rfl) (fun _ _ _ => rfl)
    (fun t => by rw [after_1]; unfold Dat.blockOf iblk; rw [dat_A]; try rfl) t d).trans
    (by unfold Dat.fetched Dat.blockOf iblk; rw [dat_A]; try rfl)
theorem before_2 (t : Fin cfg1.N) (d) : (dat V c).before 2 t d = iblk V c 2 t :=
  ((dat V c).before_in_eq_fetched 2 rfl (fun _ => rfl) (fun _ _ _ => rfl)
    (fun t => by rw [after_2]; unfold Dat.blockOf iblk; rw [dat_A]; try rfl) t d).trans
    (by unfold Dat.fetched Dat.blockOf iblk; rw [dat_A]; try rfl)

/-- Inside a row block the lookup's buffer holds what the point before left. -/
theorem before_3 (t : Fin cfg1.N) (h : ¬t.val % 8 = 0) (d) : (dat V c).before 3 t d = look V c (t.val - 1) := by
  have hN : t.val < 512 := lt_of_lt_of_eq t.isLt N_1
  rw [Dat.before_out_kept _ 3 rfl t (by omega) (Bool.eq_false_iff.mpr fun h => by have := (flush1_3 _).mp h; dsimp only at this; omega)
    (fun _ => rfl) (fun _ _ => rfl), after_3]
  exact if_neg (by dsimp only; omega)

/-- Whether the sum's buffer still holds nothing the body stored, point by point: bit `n` for position `n + 1`. -/
def freshTab : ℕ → Bool
  | 0 => true
  | n + 1 => (0x8000000000000000000000000000000000000000000000000000000000000000000000000000000000000000000000000000000000000000000000000000007f : ℕ).testBit n
theorem freshTab_step : ∀ t : Fin cfg1.N,
    freshTab (t.val + 1) = ((cfg1.win 4).flush t || (cfg1.idle 4 (cfg1.grid.coords t) && freshTab t.val)) := by decide +kernel
theorem fresh_eq (t : Fin cfg1.N) : cfg1.fresh 4 t.val = freshTab t.val :=
  Pipeline.Cfg.fresh_tab cfg1 4 freshTab rfl freshTab_step t.val (Nat.le_of_lt t.isLt)

theorem idleAt : ∀ t : Fin cfg1.N, ¬t.val % 8 = 7 → cfg1.idle 4 (grid1.coords t) = true := by decide +kernel
theorem noFlush : ∀ t : Fin cfg1.N, ¬t.val % 8 = 7 → (cfg1.win 4).flush t = false := by decide +kernel
theorem liveAt : ∀ t : Fin cfg1.N, t.val % 8 = 7 → cfg1.idle 4 (grid1.coords t) = false := by decide +kernel
theorem notFresh : ∀ t : Fin cfg1.N, t.val % 8 = 7 → ¬t.val < 8 → cfg1.fresh 4 t.val = false := by
  intro t; rw [fresh_eq t]; revert t; decide +kernel

/-- A point that leaves the sum alone leaves it at what the point before left. -/
theorem carry : ∀ (t : Fin cfg1.N) (_ : t.val ≠ 0), cfg1.idle 4 (grid1.coords t) = true → cfg1.fresh 4 t.val = false →
    (dat V c).after 4 t = (dat V c).after 4 ⟨t.val - 1, by omega⟩ := by
  intro t h0 hi _
  have h7 : ¬t.val % 8 = 7 := fun h => absurd (hi.symm.trans (liveAt t h)) (by decide)
  rw [after_4, after_4]
  congr 1
  dsimp only
  omega

/-- After the first row block the sum's buffer holds the sum over the row blocks before. -/
theorem before_4 (t : Fin cfg1.N) (h7 : t.val % 8 = 7) (h8 : ¬t.val < 8) (d) :
    (dat V c).before 4 t d = sumSq V c (t.val / 8) := by
  rw [Dat.before_out_traj _ 4 rfl (fun _ _ => rfl) (carry V c) t.val t rfl d,
    if_neg (by rw [notFresh t h7 h8]; exact Bool.false_ne_true), after_4]
  congr 1
  dsimp only
  omega

/-! ## The body at a point -/

theorem leaves_0 (t : Fin cfg1.N) : (dat V c).leavesExact 0 t = owns (c : Thread nD τ) (st1_0 t) fullShare (idxBlk V c t) := by
  unfold Dat.leavesExact; rw [show cfg1.idle 0 (grid1.coords t) = false from rfl, after_0]
theorem leaves_1 (t : Fin cfg1.N) : (dat V c).leavesExact 1 t = owns (c : Thread nD τ) (st1_1 t) fullShare (rowBlk V c t) := by
  unfold Dat.leavesExact; rw [show cfg1.idle 1 (grid1.coords t) = false from rfl, after_1]
theorem leaves_2 (t : Fin cfg1.N) : (dat V c).leavesExact 2 t = owns (c : Thread nD τ) (st1_2 t) fullShare (codeBlk V c t) := by
  unfold Dat.leavesExact; rw [show cfg1.idle 2 (grid1.coords t) = false from rfl, after_2]
theorem leaves_3 (t : Fin cfg1.N) : (dat V c).leavesExact 3 t = owns (c : Thread nD τ) (st1_3 t) fullShare (lookOut V c t.val) := by
  unfold Dat.leavesExact; rw [show cfg1.idle 3 (grid1.coords t) = false from rfl, after_3]
theorem leaves_4 (t : Fin cfg1.N) (h : t.val % 8 = 7) :
    (dat V c).leavesExact 4 t = owns (c : Thread nD τ) (st1_4 t) fullShare (sumSq V c ((t.val + 1) / 8)) := by
  unfold Dat.leavesExact; rw [liveAt t h, after_4]

/-- What the body is entered with at point `t`. -/
def bodyPre (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- What it leaves there. -/
def bodyPost (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 1600000 in
theorem sound_body (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl, leaves_0, leaves_1, leaves_2, leaves_3]
  have hN : t.val < 512 := lt_of_lt_of_eq t.isLt N_1
  by_cases h0 : t.val % 8 = 0
  · have h7 : ¬t.val % 8 = 7 := by omega
    rw [Dat.leavesExact_idle (dat V c) 4 t (idleAt t h7) (noFlush t h7), lookOut, if_neg h7, look_reset V c _ h0, pt_val]
    iintro ⟨HΦ, Ho, ⟨%d0, H0⟩, ⟨%d1, H1⟩, ⟨%d2, H2⟩, ⟨%d3, H3⟩, ⟨%d4, H4⟩⟩
    iapply (body_first c (grid1.coords t) _ _ _ _ _ _ _ _ _ _ (idxBlk V c t) (rowBlk V c t) (codeBlk V c t) _ _
      ((first_iff t).mpr h0) (fun h => h7 ((last_iff t).mp h)) Set.univ _)
    unfold bufs
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexists _; iexact H4
  · simp only [before_3 V c t h0]
    by_cases h7 : t.val % 8 = 7
    · rw [leaves_4 V c t h7, lookOut, if_pos h7, pt_val]
      have hs : (t.val + 1) / 8 = t.val / 8 + 1 := by omega
      have hr : 8 * (t.val / 8) + 7 = t.val := by omega
      by_cases h8 : t.val < 8
      · have hz : t.val / 8 = 0 := by omega
        rw [hs, hz, sumSq, sumSq, show 8 * 0 + 7 = t.val by omega, pt_val, look_step V c _ h0, pt_val]
        iintro ⟨HΦ, Ho, ⟨%d0, H0⟩, ⟨%d1, H1⟩, ⟨%d2, H2⟩, ⟨%d3, H3⟩, ⟨%d4, H4⟩⟩
        iapply (body_last_start c (grid1.coords t) _ _ _ _ _ _ _ _ _ _ (idxBlk V c t) (rowBlk V c t) (codeBlk V c t) _ _
          (fun h => h0 ((first_iff t).mp h)) ((last_iff t).mpr h7) ((start_iff t).mpr h8) Set.univ _)
        unfold bufs
        isplitl [H0 H1 H2 H3 H4]
        · isplitl [H0]; · iexact H0
          isplitl [H1]; · iexact H1
          isplitl [H2]; · iexact H2
          isplitl [H3]; · iexact H3
          iexact H4
        iintro ⟨H0, H1, H2, H3, H4⟩
        isplitl [HΦ]; · iexact HΦ
        isplitl [Ho]; · iexact Ho
        isplitl [H0]; · iexact H0
        isplitl [H1]; · iexact H1
        isplitl [H2]; · iexact H2
        isplitl [H3]; · iexact H3
        iexact H4
      · simp only [before_4 V c t h7 h8]
        rw [hs, sumSq, hr, pt_val, look_step V c _ h0, pt_val]
        iintro ⟨HΦ, Ho, ⟨%d0, H0⟩, ⟨%d1, H1⟩, ⟨%d2, H2⟩, ⟨%d3, H3⟩, ⟨%d4, H4⟩⟩
        iapply (body_last c (grid1.coords t) _ _ _ _ _ _ _ _ _ _ (idxBlk V c t) (rowBlk V c t) (codeBlk V c t) _ _
          (fun h => h0 ((first_iff t).mp h)) ((last_iff t).mpr h7) (fun h => h8 ((start_iff t).mp h)) Set.univ _)
        unfold bufs
        isplitl [H0 H1 H2 H3 H4]
        · isplitl [H0]; · iexact H0
          isplitl [H1]; · iexact H1
          isplitl [H2]; · iexact H2
          isplitl [H3]; · iexact H3
          iexact H4
        iintro ⟨H0, H1, H2, H3, H4⟩
        isplitl [HΦ]; · iexact HΦ
        isplitl [Ho]; · iexact Ho
        isplitl [H0]; · iexact H0
        isplitl [H1]; · iexact H1
        isplitl [H2]; · iexact H2
        isplitl [H3]; · iexact H3
        iexact H4
    · rw [Dat.leavesExact_idle (dat V c) 4 t (idleAt t h7) (noFlush t h7), lookOut, if_neg h7, look_step V c _ h0, pt_val]
      iintro ⟨HΦ, Ho, ⟨%d0, H0⟩, ⟨%d1, H1⟩, ⟨%d2, H2⟩, ⟨%d3, H3⟩, ⟨%d4, H4⟩⟩
      iapply (body_middle c (grid1.coords t) _ _ _ _ _ _ _ _ _ _ (idxBlk V c t) (rowBlk V c t) (codeBlk V c t) _ _
        (fun h => h0 ((first_iff t).mp h)) (fun h => h7 ((last_iff t).mp h)) Set.univ _)
      unfold bufs
      isplitl [H0 H1 H2 H3 H4]
      · isplitl [H0]; · iexact H0
        isplitl [H1]; · iexact H1
        isplitl [H2]; · iexact H2
        isplitl [H3]; · iexact H3
        iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexists _; iexact H4

/-- The second call's body as the configuration names it. -/
theorem defs₀_row (t : Fin cfg1.N) :
    defs₀ (F := F) .tc cfg1.body (cfg1.bodyArgs t (cfg1.slots t)) = bodyAt1 t := by
  unfold defs₀; rw [Defs.onTc_tc]

theorem body_obligation : BodyObligation (dat V c) (defs₀ (F := F)) Variants.none () Set.univ := fun t => by
  rw [bigSep_W1, bigSep_W1, defs₀_row]
  exact triple_restated (sound_body V c t) rfl .rfl fun _ => .rfl

end

end Cert.KernelIdeal.Lookup

end
-- ==== Proof.SearchBody.lean ====
/- What one grid point of the first call computes (the search for the nearest code): the body, run on whole staging and
   scratch buffers, leaves the running best value, its index, the kept first-half best and the emitted index at named
   values. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value
public import proofs.«01_k».proof.Proof.LookupBody

@[expose] public section

set_option maxRecDepth 16384

noncomputable section

namespace Cert.KernelIdeal.Search

open Cert.KernelIdeal Cert.KernelIdeal.Gen
open Cert.KernelIdeal.Lookup (offs2 offs3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point opens one of the two halves of the codes: the running best is reset. -/
abbrev opens (i : grid0.Coords) : Prop := (Scalar.cmpi .ne (Scalar.extui (Scalar.ori (Scalar.cmpi .eq (BitVec.ofNat 32 (i 1).val) 0#32) (Scalar.cmpi .eq (BitVec.ofNat 32 (i 1).val) 4#32))) 0#32) = 1#1
/-- The point continues a half: the running best is compared with the block's. -/
abbrev continues (i : grid0.Coords) : Prop := (Scalar.cmpi .ne (Scalar.extui (Scalar.andi (Scalar.cmpi .ne (BitVec.ofNat 32 (i 1).val) 0#32) (Scalar.cmpi .ne (BitVec.ofNat 32 (i 1).val) 4#32))) 0#32) = 1#1
/-- The point ends the first half: the running best is kept. -/
abbrev keeps (i : grid0.Coords) : Prop := (Scalar.cmpi .ne (Scalar.extui (Scalar.cmpi .eq (BitVec.ofNat 32 (i 1).val) 3#32)) 0#32) = 1#1

theorem opens_iff : ∀ t : Fin cfg0.N, opens (grid0.coords t) ↔ t.val % 8 = 0 ∨ t.val % 8 = 4 :=
  (fun t => by
    have ht : t.val < 512 := Nat.lt_of_lt_of_eq t.isLt N_0
    have e0 : (grid0.coords t 0).val = t.val / 8 % 64 := Pipeline.Grid.coords_val t 0 (by decide) rfl
    have e1 : (grid0.coords t 1).val = t.val / 1 % 8 := Pipeline.Grid.coords_val t 1 (by decide) rfl
    simp only [opens, e0, e1]
    word_cmp : ∀ t : Fin grid0.N, opens (grid0.coords t) ↔ t.val % 8 = 0 ∨ t.val % 8 = 4)

theorem continues_iff : ∀ t : Fin cfg0.N, continues (grid0.coords t) ↔ ¬(t.val % 8 = 0 ∨ t.val % 8 = 4) :=
  (fun t => by
    have ht : t.val < 512 := Nat.lt_of_lt_of_eq t.isLt N_0
    have e0 : (grid0.coords t 0).val = t.val / 8 % 64 := Pipeline.Grid.coords_val t 0 (by decide) rfl
    have e1 : (grid0.coords t 1).val = t.val / 1 % 8 := Pipeline.Grid.coords_val t 1 (by decide) rfl
    simp only [continues, e0, e1]
    word_cmp : ∀ t : Fin grid0.N, continues (grid0.coords t) ↔ ¬(t.val % 8 = 0 ∨ t.val % 8 = 4))

theorem keeps_iff : ∀ t : Fin cfg0.N, keeps (grid0.coords t) ↔ t.val % 8 = 3 :=
  (fun t => by
    have ht : t.val < 512 := Nat.lt_of_lt_of_eq t.isLt N_0
    have e0 : (grid0.coords t 0).val = t.val / 8 % 64 := Pipeline.Grid.coords_val t 0 (by decide) rfl
    have e1 : (grid0.coords t 1).val = t.val / 1 % 8 := Pipeline.Grid.coords_val t 1 (by decide) rfl
    simp only [keeps, e0, e1]
    word_cmp : ∀ t : Fin grid0.N, keeps (grid0.coords t) ↔ t.val % 8 = 3)

theorem emits_iff : ∀ t : Fin cfg0.N, k0_cond4 (grid0.coords t) = 1#1 ↔ t.val % 8 = 7 :=
  (fun t => by
    have ht : t.val < 512 := Nat.lt_of_lt_of_eq t.isLt N_0
    have e0 : (grid0.coords t 0).val = t.val / 8 % 64 := Pipeline.Grid.coords_val t 0 (by decide) rfl
    have e1 : (grid0.coords t 1).val = t.val / 1 % 8 := Pipeline.Grid.coords_val t 1 (by decide) rfl
    simp only [k0_cond4, e0, e1]
    word_cmp : ∀ t : Fin grid0.N, k0_cond4 (grid0.coords t) = 1#1 ↔ t.val % 8 = 7)

section Body

variable (c : Dev nD) (i : grid0.Coords) (arg2 : Memref sig .tc .vmem S256x32 .f32) (harg2 : arg2.IsWhole) (arg3 : Memref sig .tc .vmem S1024x32 .f32) (harg3 : arg3.IsWhole) (arg4 : Memref sig .tc .vmem S256x1 .f32) (harg4 : arg4.IsWhole) (arg5 : Memref sig .tc .vmem S1x1024 .f32) (harg5 : arg5.IsWhole) (arg6 : Memref sig .tc .vmem S1x256x1 .i32) (harg6 : arg6.IsWhole) (arg7 : Memref sig .tc .vmem S256x1 .f32) (harg7 : arg7.IsWhole) (arg8 : Memref sig .tc .vmem S256x1 .i32) (harg8 : arg8.IsWhole) (arg9 : Memref sig .tc .vmem S256x1 .f32) (harg9 : arg9.IsWhole) (arg10 : Memref sig .tc .vmem S256x1 .i32) (harg10 : arg10.IsWhole)
  (x0 : Vec F S256x32 .f32) (x1 : Vec F S1024x32 .f32) (x2 : Vec F S256x1 .f32) (x3 : Vec F S1x1024 .f32) (o : Vec F S1x256x1 .i32) (b : Vec F S256x1 .f32) (k : Vec F S256x1 .i32) (rb : Vec F S256x1 .f32) (rk : Vec F S256x1 .i32)

/-- The nine buffers of the body, each whole: the four operands' blocks, the result's, the running best value and its
    index, the kept best and its index. -/
abbrev bufs (c : Dev nD) (arg2 : Memref sig .tc .vmem S256x32 .f32) (arg3 : Memref sig .tc .vmem S1024x32 .f32) (arg4 : Memref sig .tc .vmem S256x1 .f32) (arg5 : Memref sig .tc .vmem S1x1024 .f32) (arg6 : Memref sig .tc .vmem S1x256x1 .i32) (arg7 : Memref sig .tc .vmem S256x1 .f32) (arg8 : Memref sig .tc .vmem S256x1 .i32) (arg9 : Memref sig .tc .vmem S256x1 .f32) (arg10 : Memref sig .tc .vmem S256x1 .i32)
    (x0 : Vec F S256x32 .f32) (x1 : Vec F S1024x32 .f32) (x2 : Vec F S256x1 .f32) (x3 : Vec F S1x1024 .f32) (o : Vec F S1x256x1 .i32) (b : Vec F S256x1 .f32) (k : Vec F S256x1 .i32) (rb : Vec F S256x1 .f32) (rk : Vec F S256x1 .i32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o ∗ owns (c : Thread nD τ) arg7 fullShare b ∗ owns (c : Thread nD τ) arg8 fullShare k ∗ owns (c : Thread nD τ) arg9 fullShare rb ∗ owns (c : Thread nD τ) arg10 fullShare rk)

/-- The running best value after a point that continues a half. -/
abbrev best : Vec F S256x1 .f32 := k0_pay2 (k0_pay8 x0 x1 x2 x3) b b
/-- Its index. -/
abbrev bestIx : Vec F S256x1 .i32 := k0_pay3 (k0_pay8 x0 x1 x2 x3) (k0_pay9 i x0 x1 x2 x3) b k

set_option maxHeartbeats 1000000 in
/-- A point that opens a half takes its block's best. -/
theorem body_opens (h0 : opens i) (h1 : ¬continues i) (h2 : ¬keeps i) (h3 : ¬k0_cond4 i = 1#1) (E : Set ℕ) (K : PUnit → sProp 𝕄) :
    iprop(bufs c arg2 arg3 arg4 arg5 arg6 arg7 arg8 arg9 arg10 x0 x1 x2 x3 o b k rb rk
        ∗ (bufs c arg2 arg3 arg4 arg5 arg6 arg7 arg8 arg9 arg10 x0 x1 x2 x3 o (k0_pay10 x0 x1 x2 x3) (k0_pay11 i x0 x1 x2 x3) rb rk -∗ K ⟨⟩))
      ⊢ wp frame (wpE (defs₀ (F := F)) Variants.none c none) E (cc0__argmin_kernel i arg2 harg2 arg3 harg3 arg4 harg4 arg5 harg5 arg6 harg6 arg7 harg7 arg8 harg8 arg9 harg9 arg10 harg10) K := by
  simp only [cc0__argmin_kernel_eq_skeleton]; unfold cc0__argmin_kernel_skel
  simp only [k0_part1_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H6]
  · iexists _; isplitr
    swap; · iexact H6
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H7]
  · iexists _; isplitr; · ipureintro; exact harg9.read_unread _
    iexact H7
  · iexists _; isplitr; · ipureintro; exact harg10.read_unread _
    iexact H8

set_option maxHeartbeats 1000000 in
/-- A point in the middle of a half compares its block's best with the running one. -/
theorem body_continues (h0 : ¬opens i) (h1 : continues i) (h2 : ¬keeps i) (h3 : ¬k0_cond4 i = 1#1) (E : Set ℕ) (K : PUnit → sProp 𝕄) :
    iprop(bufs c arg2 arg3 arg4 arg5 arg6 arg7 arg8 arg9 arg10 x0 x1 x2 x3 o b k rb rk
        ∗ (bufs c arg2 arg3 arg4 arg5 arg6 arg7 arg8 arg9 arg10 x0 x1 x2 x3 o (best x0 x1 x2 x3 b) (bestIx i x0 x1 x2 x3 b k) rb rk -∗ K ⟨⟩))
      ⊢ wp frame (wpE (defs₀ (F := F)) Variants.none c none) E (cc0__argmin_kernel i arg2 harg2 arg3 harg3 arg4 harg4 arg5 harg5 arg6 harg6 arg7 harg7 arg8 harg8 arg9 harg9 arg10 harg10) K := by
  simp only [cc0__argmin_kernel_eq_skeleton]; unfold cc0__argmin_kernel_skel
  simp only [k0_part1_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H6]
  · iexists _; isplitr
    swap; · iexact H6
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H7]
  · iexists _; isplitr; · ipureintro; exact harg9.read_unread _
    iexact H7
  · iexists _; isplitr; · ipureintro; exact harg10.read_unread _
    iexact H8

set_option maxHeartbeats 1000000 in
/-- The point that ends the first half keeps the best found. -/
theorem body_keeps (h0 : ¬opens i) (h1 : continues i) (h2 : keeps i) (h3 : ¬k0_cond4 i = 1#1) (E : Set ℕ) (K : PUnit → sProp 𝕄) :
    iprop(bufs c arg2 arg3 arg4 arg5 arg6 arg7 arg8 arg9 arg10 x0 x1 x2 x3 o b k rb rk
        ∗ (bufs c arg2 arg3 arg4 arg5 arg6 arg7 arg8 arg9 arg10 x0 x1 x2 x3 o (best x0 x1 x2 x3 b) (bestIx i x0 x1 x2 x3 b k) (k0_pay4 (best x0 x1 x2 x3 b)) (k0_pay5 (bestIx i x0 x1 x2 x3 b k)) -∗ K ⟨⟩))
      ⊢ wp frame (wpE (defs₀ (F := F)) Variants.none c none) E (cc0__argmin_kernel i arg2 harg2 arg3 harg3 arg4 harg4 arg5 harg5 arg6 harg6 arg7 harg7 arg8 harg8 arg9 harg9 arg10 harg10) K := by
  simp only [cc0__argmin_kernel_eq_skeleton]; unfold cc0__argmin_kernel_skel
  simp only [k0_part1_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H6]
  · iexists _; isplitr
    swap; · iexact H6
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H7]
  · iexists _; isplitr
    swap; · iexact H7
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  · iexists _; isplitr
    swap; · iexact H8
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]

set_option maxHeartbeats 1000000 in
/-- The point that ends the second half emits the better half's index. -/
theorem body_emits (h0 : ¬opens i) (h1 : continues i) (h2 : ¬keeps i) (h3 : k0_cond4 i = 1#1) (E : Set ℕ) (K : PUnit → sProp 𝕄) :
    iprop(bufs c arg2 arg3 arg4 arg5 arg6 arg7 arg8 arg9 arg10 x0 x1 x2 x3 o b k rb rk
        ∗ (bufs c arg2 arg3 arg4 arg5 arg6 arg7 arg8 arg9 arg10 x0 x1 x2 x3 (k0_pay6 (best x0 x1 x2 x3 b) rb (bestIx i x0 x1 x2 x3 b k) rk) (best x0 x1 x2 x3 b) (bestIx i x0 x1 x2 x3 b k) rb rk -∗ K ⟨⟩))
      ⊢ wp frame (wpE (defs₀ (F := F)) Variants.none c none) E (cc0__argmin_kernel i arg2 harg2 arg3 harg3 arg4 harg4 arg5 harg5 arg6 harg6 arg7 harg7 arg8 harg8 arg9 harg9 arg10 harg10) K := by
  simp only [cc0__argmin_kernel_eq_skeleton]; unfold cc0__argmin_kernel_skel
  simp only [k0_part1_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact h0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (View.cover_of_tiledL _ S1x256x1.size (by sl_kernel_rfl))]
    sl_unfold_words
    rw [View.canon_unit_zero (S := S1x256x1) offs3]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H5]
  · iexists _; isplitr
    swap; · iexact H5
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H6]
  · iexists _; isplitr
    swap; · iexact H6
    ipureintro
    rw [View.read_writes_eq_canon _ _ _ (View.cover_of_tiledL _ S256x1.size (by sl_kernel_rfl))]
    sl_unfold_words
    rw [View.canon_unit_zero (S := S256x1) offs2]
    simp only [View.readCov_unit_zero (S := S256x1) _ offs2, View.readAt_eq_ld, harg2.read_unread, harg3.read_unread, harg4.read_unread, harg5.read_unread, harg6.read_unread, harg7.read_unread, harg8.read_unread, harg9.read_unread, harg10.read_unread, View.ld_unit_zero (S := S256x32) offs2, View.ld_unit_zero (S := S256x1) offs2, View.ld_unit_zero (S := S1024x32) offs2, View.ld_unit_zero (S := S1x1024) offs2]
  isplitl [H7]
  · iexists _; isplitr; · ipureintro; exact harg9.read_unread _
    iexact H7
  · iexists _; isplitr; · ipureintro; exact harg10.read_unread _
    iexact H8

end Body

end Cert.KernelIdeal.Search

end
-- ==== Proof.SearchRegion.lean ====
/- The first call as a pipeline: what every staging and scratch buffer holds at every grid point, from the contents the
   call finds its arrays at, and the proof that the body takes each point to the next. -/
module

public import proofs.«01_k».proof.Proof.SearchBody

@[expose] public section

set_option maxRecDepth 16384

noncomputable section

namespace Cert.KernelIdeal.Search

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The `n`-th grid point (taken round past the last). -/
def pt (n : ℕ) : Fin cfg0.N := ⟨n % 512, lt_of_lt_of_eq (Nat.mod_lt _ (by decide)) N_0.symm⟩

theorem pt_val (t : Fin cfg0.N) : pt t.val = t :=
  Fin.ext (Nat.mod_eq_of_lt (lt_of_lt_of_eq t.isLt N_0))

section

variable (V : Dev nD → Valuation τ sig (Elt F)) (c : Dev nD)

/-- Window `w`'s block at point `t`, of the contents the call finds. -/
def iblk (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows, the codes and the two lists of squared lengths the body reads at point `t`. -/
abbrev rowBlk (t : Fin cfg0.N) : Vec F S256x32 .f32 := iblk V c 0 t
abbrev codeBlk (t : Fin cfg0.N) : Vec F S1024x32 .f32 := iblk V c 1 t
abbrev rowSq (t : Fin cfg0.N) : Vec F S256x1 .f32 := iblk V c 2 t
abbrev codeSq (t : Fin cfg0.N) : Vec F S1x1024 .f32 := iblk V c 3 t

/-- The best value of a half and its index when the half opens at point `t`. -/
def opened (t : Fin cfg0.N) : Vec F S256x1 .f32 × Vec F S256x1 .i32 :=
  (k0_pay10 (rowBlk V c t) (codeBlk V c t) (rowSq V c t) (codeSq V c t),
    k0_pay11 (grid0.coords t) (rowBlk V c t) (codeBlk V c t) (rowSq V c t) (codeSq V c t))

/-- The best value and its index once point `t`'s block has been compared with `s`. -/
def continued (t : Fin cfg0.N) (s : Vec F S256x1 .f32 × Vec F S256x1 .i32) : Vec F S256x1 .f32 × Vec F S256x1 .i32 :=
  (best (rowBlk V c t) (codeBlk V c t) (rowSq V c t) (codeSq V c t) s.1,
    bestIx (grid0.coords t) (rowBlk V c t) (codeBlk V c t) (rowSq V c t) (codeSq V c t) s.1 s.2)

/-- The running best value and its index after point `n`: reset where a half of the codes opens. -/
def run : ℕ → Vec F S256x1 .f32 × Vec F S256x1 .i32
  | 0 => opened V c (pt 0)
  | n + 1 => if (n + 1) % 4 = 0 then opened V c (pt (n + 1)) else continued V c (pt (n + 1)) (run n)

theorem run_opens (n : ℕ) (h : n % 4 = 0) : run V c n = opened V c (pt n) := by
  cases n with
  | zero => rfl
  | succ n => rw [run, if_pos h]

theorem run_continues (n : ℕ) (h : ¬ n % 4 = 0) : run V c n = continued V c (pt n) (run V c (n - 1)) := by
  cases n with
  | zero => exact absurd rfl h
  | succ n => rw [run, if_neg h]; rfl

/-- The indices written out at the last point `n` of a row block: the second half's best against the first half's, kept
    four points before. -/
def emitted (n : ℕ) : Vec F S1x256x1 .i32 :=
  k0_pay6 (run V c n).1 (k0_pay4 (run V c (n - 4)).1) (run V c n).2 (k0_pay5 (run V c (n - 4)).2)

/-- What the four scratch buffers are known to hold before point `n`: inside a half the running best, in the second half
    also the first half's best. -/
def Known (n : ℕ) (b : Vec F S256x1 .f32) (k : Vec F S256x1 .i32) (rb : Vec F S256x1 .f32) (rk : Vec F S256x1 .i32) : Prop :=
  (¬ n % 4 = 0 → (b, k) = run V c (n - 1))
  ∧ (4 ≤ n % 8 → rb = k0_pay4 (run V c (n / 8 * 8 + 3)).1 ∧ rk = k0_pay5 (run V c (n / 8 * 8 + 3)).2)

/-- The other buffers kept on the core during the call, at any contents. -/
def others : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f))

/-- The invariant before point `n`. -/
def inv (n : ℕ) : sProp 𝕄 :=
  iprop(others c ∗ ∃ (b : Vec F S256x1 .f32) (k : Vec F S256x1 .i32) (rb : Vec F S256x1 .f32) (rk : Vec F S256x1 .i32),
    ⌜Known V c n b k rb rk⌝ ∗ owns (c : Thread nD τ) (Memref.whole cc0_scratch0) fullShare b
      ∗ owns (c : Thread nD τ) (Memref.whole cc0_scratch1) fullShare k
      ∗ owns (c : Thread nD τ) (Memref.whole cc0_scratch2) fullShare rb
      ∗ owns (c : Thread nD τ) (Memref.whole cc0_scratch3) fullShare rk)

/-- The proof data of the first call. -/
def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => emitted V c t.val
  Φ t := inv V c t.val
  q _ := fullShare
  owed _ := 0

theorem dat_A (w : Fin cfg0.W) : (dat V c).A w = V c (Pipeline.arrRef spec0 w) := by
  dsimp only [dat]
theorem after_0 (t : Fin cfg0.N) : (dat V c).after 0 t = iblk V c 0 t := by dsimp only [dat]
theorem after_1 (t : Fin cfg0.N) : (dat V c).after 1 t = iblk V c 1 t := by dsimp only [dat]
theorem after_2 (t : Fin cfg0.N) : (dat V c).after 2 t = iblk V c 2 t := by dsimp only [dat]
theorem after_3 (t : Fin cfg0.N) : (dat V c).after 3 t = iblk V c 3 t := by dsimp only [dat]
theorem after_4 (t : Fin cfg0.N) : (dat V c).after 4 t = emitted V c t.val := by dsimp only [dat]

theorem inv_castSucc (t : Fin cfg0.N) : (dat V c).Φ t.castSucc = inv V c t.val := by
  dsimp only [dat]; exact Pipeline.Dat.Φ_castSucc (fun n _ => inv V c n) t
theorem inv_succ (t : Fin cfg0.N) : (dat V c).Φ t.succ = inv V c (t.val + 1) := rfl

theorem before_0 (t : Fin cfg0.N) (d) : (dat V c).before 0 t d = iblk V c 0 t :=
  ((dat V c).before_in_eq_fetched 0 rfl (fun _ => rfl) (fun _ _ _ => rfl)
    (fun t => by rw [after_0]; unfold Dat.blockOf iblk; rw [dat_A]; try rfl) t d).trans
    (by unfold Dat.fetched Dat.blockOf iblk; rw [dat_A]; try rfl)
theorem before_1 (t : Fin cfg0.N) (d) : (dat V c).before 1 t d = iblk V c 1 t :=
  ((dat V c).before_in_eq_fetched 1 rfl (fun _ => rfl) (fun _ _ _ => rfl)
    (fun t => by rw [after_1]; unfold Dat.blockOf iblk; rw [dat_A]; try rfl) t d).trans
    (by unfold Dat.fetched Dat.blockOf iblk; rw [dat_A]; try rfl)
theorem before_2 (t : Fin cfg0.N) (d) : (dat V c).before 2 t d = iblk V c 2 t :=
  ((dat V c).before_in_eq_fetched 2 rfl (fun _ => rfl) (fun _ _ _ => rfl)
    (fun t => by rw [after_2]; unfold Dat.blockOf iblk; rw [dat_A]; try rfl) t d).trans
    (by unfold Dat.fetched Dat.blockOf iblk; rw [dat_A]; try rfl)
theorem before_3 (t : Fin cfg0.N) (d) : (dat V c).before 3 t d = iblk V c 3 t :=
  ((dat V c).before_in_eq_fetched 3 rfl (fun _ => rfl) (fun _ _ _ => rfl)
    (fun t => by rw [after_3]; unfold Dat.blockOf iblk; rw [dat_A]; try rfl) t d).trans
    (by unfold Dat.fetched Dat.blockOf iblk; rw [dat_A]; try rfl)

theorem idleAt : ∀ t : Fin cfg0.N, ¬t.val % 8 = 7 → cfg0.idle 4 (grid0.coords t) = true := by decide +kernel
theorem noFlush : ∀ t : Fin cfg0.N, ¬t.val % 8 = 7 → (cfg0.win 4).flush t = false := by decide +kernel
theorem liveAt : ∀ t : Fin cfg0.N, t.val % 8 = 7 → cfg0.idle 4 (grid0.coords t) = false := by decide +kernel

theorem leaves_0 (t : Fin cfg0.N) : (dat V c).leavesExact 0 t = owns (c : Thread nD τ) (st0_0 t) fullShare (rowBlk V c t) := by
  unfold Dat.leavesExact; rw [show cfg0.idle 0 (grid0.coords t) = false from rfl, after_0]
theorem leaves_1 (t : Fin cfg0.N) : (dat V c).leavesExact 1 t = owns (c : Thread nD τ) (st0_1 t) fullShare (codeBlk V c t) := by
  unfold Dat.leavesExact; rw [show cfg0.idle 1 (grid0.coords t) = false from rfl, after_1]
theorem leaves_2 (t : Fin cfg0.N) : (dat V c).leavesExact 2 t = owns (c : Thread nD τ) (st0_2 t) fullShare (rowSq V c t) := by
  unfold Dat.leavesExact; rw [show cfg0.idle 2 (grid0.coords t) = false from rfl, after_2]
theorem leaves_3 (t : Fin cfg0.N) : (dat V c).leavesExact 3 t = owns (c : Thread nD τ) (st0_3 t) fullShare (codeSq V c t) := by
  unfold Dat.leavesExact; rw [show cfg0.idle 3 (grid0.coords t) = false from rfl, after_3]
theorem leaves_4 (t : Fin cfg0.N) (h : t.val % 8 = 7) :
    (dat V c).leavesExact 4 t = owns (c : Thread nD τ) (st0_4 t) fullShare (emitted V c t.val) := by
  unfold Dat.leavesExact; rw [liveAt t h, after_4]

/-! ## How what is known passes from point to point -/

section Known

variable {V c} {n : ℕ} {b : Vec F S256x1 .f32} {k : Vec F S256x1 .i32} {rb : Vec F S256x1 .f32} {rk : Vec F S256x1 .i32}

theorem known_opens (hs : Known V c n b k rb rk) (h4 : n % 4 = 0) :
    Known V c (n + 1) (opened V c (pt n)).1 (opened V c (pt n)).2 rb rk := by
  refine ⟨fun _ => ?_, fun h => ?_⟩
  · rw [Nat.add_sub_cancel, run_opens V c n h4]
  · rw [show (n + 1) / 8 = n / 8 by omega]; exact hs.2 (by omega)

theorem known_continues (hs : Known V c n b k rb rk) (h4 : ¬ n % 4 = 0) (h3 : ¬ n % 8 = 3) :
    Known V c (n + 1) (continued V c (pt n) (b, k)).1 (continued V c (pt n) (b, k)).2 rb rk := by
  refine ⟨fun _ => ?_, fun h => ?_⟩
  · rw [Nat.add_sub_cancel, run_continues V c n h4, hs.1 h4]
  · rw [show (n + 1) / 8 = n / 8 by omega]; exact hs.2 (by omega)

theorem known_keeps (hs : Known V c n b k rb rk) (h3 : n % 8 = 3) :
    Known V c (n + 1) (continued V c (pt n) (b, k)).1 (continued V c (pt n) (b, k)).2
      (k0_pay4 (continued V c (pt n) (b, k)).1) (k0_pay5 (continued V c (pt n) (b, k)).2) := by
  have h4 : ¬ n % 4 = 0 := by omega
  refine ⟨fun h => absurd h (by omega), fun _ => ?_⟩
  rw [show (n + 1) / 8 * 8 + 3 = n by omega, run_continues V c n h4, hs.1 h4]
  exact ⟨rfl, rfl⟩

theorem known_emits (hs : Known V c n b k rb rk) (h7 : n % 8 = 7) :
    k0_pay6 (continued V c (pt n) (b, k)).1 rb (continued V c (pt n) (b, k)).2 rk = emitted V c n := by
  have h4 : ¬ n % 4 = 0 := by omega
  obtain ⟨e1, e2⟩ := hs.2 (by omega)
  rw [emitted, show n - 4 = n / 8 * 8 + 3 by omega, e1, e2, run_continues V c n h4, hs.1 h4]

end Known

/-! ## The body at a point -/

/-- What the body is entered with at point `t`. -/
def bodyPre (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- What it leaves there. -/
def bodyPost (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t)

set_option maxHeartbeats 1600000 in
theorem sound_body (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [inv_castSucc, inv_succ,
    show (dat V c).owesAt () t.succ = (dat V c).owesAt () t.castSucc from rfl, leaves_0, leaves_1, leaves_2, leaves_3]
  have hp : pt t.val = t := pt_val t
  unfold inv
  by_cases h4 : t.val % 4 = 0
  · have h7 : ¬t.val % 8 = 7 := by omega
    have h3 : ¬t.val % 8 = 3 := by omega
    have ho : t.val % 8 = 0 ∨ t.val % 8 = 4 := by omega
    rw [Dat.leavesExact_idle (dat V c) 4 t (idleAt t h7) (noFlush t h7)]
    iintro ⟨⟨Hr, %b, %k, %rb, %rk, %hs, S0, S1, S2, S3⟩, Ho, ⟨%d0, H0⟩, ⟨%d1, H1⟩, ⟨%d2, H2⟩, ⟨%d3, H3⟩, ⟨%d4, H4⟩⟩
    iapply (body_opens c (grid0.coords t) _ _ _ _ _ _ _ _ _ _ _ _ _ _ _ _ _ _ (rowBlk V c t) (codeBlk V c t) (rowSq V c t) (codeSq V c t) _ b k rb rk
      ((opens_iff t).mpr ho) (fun h => (continues_iff t).mp h ho) (fun h => h3 ((keeps_iff t).mp h)) (fun h => h7 ((emits_iff t).mp h)) Set.univ _)
    unfold bufs
    isplitl [H0 H1 H2 H3 H4 S0 S1 S2 S3]
    · isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iexact S3
    have hk := known_opens hs h4
    rw [hp] at hk
    unfold opened at hk
    dsimp only at hk
    iintro ⟨H0, H1, H2, H3, H4, S0, S1, S2, S3⟩
    isplitl [Hr S0 S1 S2 S3]
    · isplitl [Hr]; · iexact Hr
      iexists _; iexists _; iexists _; iexists _
      isplitr
      · ipureintro; exact hk
      isplitl [S0]; · iexact S0
      isplitl [S1]; · iexact S1
      isplitl [S2]; · iexact S2
      iexact S3
    isplitl [Ho]; · iexact Ho
    isplitl [H0]; · iexact H0
    isplitl [H1]; · iexact H1
    isplitl [H2]; · iexact H2
    isplitl [H3]; · iexact H3
    iexists _; iexact H4
  · have ho : ¬(t.val % 8 = 0 ∨ t.val % 8 = 4) := by omega
    by_cases h7 : t.val % 8 = 7
    · have h3 : ¬t.val % 8 = 3 := by omega
      rw [leaves_4 V c t h7]
      iintro ⟨⟨Hr, %b, %k, %rb, %rk, %hs, S0, S1, S2, S3⟩, Ho, ⟨%d0, H0⟩, ⟨%d1, H1⟩, ⟨%d2, H2⟩, ⟨%d3, H3⟩, ⟨%d4, H4⟩⟩
      iapply (body_emits c (grid0.coords t) _ _ _ _ _ _ _ _ _ _ _ _ _ _ _ _ _ _ (rowBlk V c t) (codeBlk V c t) (rowSq V c t) (codeSq V c t) _ b k rb rk
        (fun h => ho ((opens_iff t).mp h)) ((continues_iff t).mpr ho) (fun h => h3 ((keeps_iff t).mp h)) ((emits_iff t).mpr h7) Set.univ _)
      unfold bufs
      isplitl [H0 H1 H2 H3 H4 S0 S1 S2 S3]
      · isplitl [H0]; · iexact H0
        isplitl [H1]; · iexact H1
        isplitl [H2]; · iexact H2
        isplitl [H3]; · iexact H3
        isplitl [H4]; · iexact H4
        isplitl [S0]; · iexact S0
        isplitl [S1]; · iexact S1
        isplitl [S2]; · iexact S2
        iexact S3
      have hk := known_continues hs h4 h3
      rw [hp] at hk
      unfold continued at hk
      dsimp only at hk
      iintro ⟨H0, H1, H2, H3, H4, S0, S1, S2, S3⟩
      isplitl [Hr S0 S1 S2 S3]
      · isplitl [Hr]; · iexact Hr
        iexists _; iexists _; iexists _; iexists _
        isplitr
        · ipureintro; exact hk
        isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      have he := known_emits hs h7
      rw [hp] at he
      unfold continued at he
      dsimp only at he
      rw [← he]; iexact H4
    · rw [Dat.leavesExact_idle (dat V c) 4 t (idleAt t h7) (noFlush t h7)]
      by_cases h3 : t.val % 8 = 3
      · iintro ⟨⟨Hr, %b, %k, %rb, %rk, %hs, S0, S1, S2, S3⟩, Ho, ⟨%d0, H0⟩, ⟨%d1, H1⟩, ⟨%d2, H2⟩, ⟨%d3, H3⟩, ⟨%d4, H4⟩⟩
        iapply (body_keeps c (grid0.coords t) _ _ _ _ _ _ _ _ _ _ _ _ _ _ _ _ _ _ (rowBlk V c t) (codeBlk V c t) (rowSq V c t) (codeSq V c t) _ b k rb rk
          (fun h => ho ((opens_iff t).mp h)) ((continues_iff t).mpr ho) ((keeps_iff t).mpr h3) (fun h => h7 ((emits_iff t).mp h)) Set.univ _)
        unfold bufs
        isplitl [H0 H1 H2 H3 H4 S0 S1 S2 S3]
        · isplitl [H0]; · iexact H0
          isplitl [H1]; · iexact H1
          isplitl [H2]; · iexact H2
          isplitl [H3]; · iexact H3
          isplitl [H4]; · iexact H4
          isplitl [S0]; · iexact S0
          isplitl [S1]; · iexact S1
          isplitl [S2]; · iexact S2
          iexact S3
        have hk := known_keeps hs h3
        rw [hp] at hk
        unfold continued at hk
        dsimp only at hk
        iintro ⟨H0, H1, H2, H3, H4, S0, S1, S2, S3⟩
        isplitl [Hr S0 S1 S2 S3]
        · isplitl [Hr]; · iexact Hr
          iexists _; iexists _; iexists _; iexists _
          isplitr
          · ipureintro; exact hk
          isplitl [S0]; · iexact S0
          isplitl [S1]; · iexact S1
          isplitl [S2]; · iexact S2
          iexact S3
        isplitl [Ho]; · iexact Ho
        isplitl [H0]; · iexact H0
        isplitl [H1]; · iexact H1
        isplitl [H2]; · iexact H2
        isplitl [H3]; · iexact H3
        iexists _; iexact H4
      · iintro ⟨⟨Hr, %b, %k, %rb, %rk, %hs, S0, S1, S2, S3⟩, Ho, ⟨%d0, H0⟩, ⟨%d1, H1⟩, ⟨%d2, H2⟩, ⟨%d3, H3⟩, ⟨%d4, H4⟩⟩
        iapply (body_continues c (grid0.coords t) _ _ _ _ _ _ _ _ _ _ _ _ _ _ _ _ _ _ (rowBlk V c t) (codeBlk V c t) (rowSq V c t) (codeSq V c t) _ b k rb rk
          (fun h => ho ((opens_iff t).mp h)) ((continues_iff t).mpr ho) (fun h => h3 ((keeps_iff t).mp h)) (fun h => h7 ((emits_iff t).mp h)) Set.univ _)
        unfold bufs
        isplitl [H0 H1 H2 H3 H4 S0 S1 S2 S3]
        · isplitl [H0]; · iexact H0
          isplitl [H1]; · iexact H1
          isplitl [H2]; · iexact H2
          isplitl [H3]; · iexact H3
          isplitl [H4]; · iexact H4
          isplitl [S0]; · iexact S0
          isplitl [S1]; · iexact S1
          isplitl [S2]; · iexact S2
          iexact S3
        have hk := known_continues hs h4 h3
        rw [hp] at hk
        unfold continued at hk
        dsimp only at hk
        iintro ⟨H0, H1, H2, H3, H4, S0, S1, S2, S3⟩
        isplitl [Hr S0 S1 S2 S3]
        · isplitl [Hr]; · iexact Hr
          iexists _; iexists _; iexists _; iexists _
          isplitr
          · ipureintro; exact hk
          isplitl [S0]; · iexact S0
          isplitl [S1]; · iexact S1
          isplitl [S2]; · iexact S2
          iexact S3
        isplitl [Ho]; · iexact Ho
        isplitl [H0]; · iexact H0
        isplitl [H1]; · iexact H1
        isplitl [H2]; · iexact H2
        isplitl [H3]; · iexact H3
        iexists _; iexact H4

/-- The first call's body as the configuration names it. -/
theorem defs₀_row (t : Fin cfg0.N) :
    defs₀ (F := F) .tc cfg0.body (cfg0.bodyArgs t (cfg0.slots t)) = bodyAt0 t := by
  unfold defs₀; rw [Defs.onTc_tc]

theorem body_obligation : BodyObligation (dat V c) (defs₀ (F := F)) Variants.none () Set.univ := fun t => by
  rw [bigSep_W0, bigSep_W0, defs₀_row]
  exact triple_restated (sound_body V c t) rfl .rfl fun _ => .rfl

/-! ## The invariant at the two ends -/

/-- At the start the scratch buffers may hold anything. -/
theorem inv_in : (Pipeline.scopedRest spec0 c : sProp 𝕄) ⊢ (dat V c).Φ 0 := by
  rw [show (dat V c).Φ 0 = inv V c 0 from rfl, scopedRest0_eq]
  unfold inv others
  iintro ⟨⟨%f0, H0⟩, ⟨%f1, H1⟩, ⟨%f2, H2⟩, ⟨%f3, H3⟩, Hr⟩
  isplitl [Hr]; · iexact Hr
  iexists f0; iexists f1; iexists f2; iexists f3
  isplitr
  · ipureintro; exact ⟨fun h => absurd rfl h, fun h => absurd h (by decide)⟩
  rw [owns_whole_eq, owns_whole_eq, owns_whole_eq, owns_whole_eq]
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists f3; isplitr; · ipureintro; rfl
  iexact H3

/-- At the end they are given back at whatever they hold. -/
theorem inv_out (n : ℕ) : inv V c n ⊢ (Pipeline.scopedRest spec0 c : sProp 𝕄) := by
  rw [scopedRest0_eq]
  unfold inv others
  iintro ⟨Hr, ⟨%b, %k, %rb, %rk, %hs, H⟩⟩
  rw [owns_whole_eq, owns_whole_eq, owns_whole_eq, owns_whole_eq]
  icases H with ⟨⟨%f0, %e0, H0⟩, ⟨%f1, %e1, H1⟩, ⟨%f2, %e2, H2⟩, ⟨%f3, %e3, H3⟩⟩
  isplitl [H0]; · iexists f0; iexact H0
  isplitl [H1]; · iexists f1; iexact H1
  isplitl [H2]; · iexists f2; iexact H2
  isplitl [H3]; · iexists f3; iexact H3
  iexact Hr

end

end Cert.KernelIdeal.Search

end
-- ==== Proof.Run.lean ====
/- The whole program: the host operations before the calls, the two calls, the host operations after them, and what every
   array holds at the end. -/
module

public import proofs.«01_k».proof.Proof.LookupRegion
public import proofs.«01_k».proof.Proof.SearchRegion
public import proofs.«01_k».proof.Proof.Gen.KernelIdeal.Regions
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

/-- The one transfer index belongs to every counter of a TensorCore. -/
abbrev ixs : GSem nD τ sig → Finset Unit := fun g => if g.1.2 = .tc then {()} else ∅
abbrev lvl : GSem nD τ sig → Unit → ℕ := fun _ _ => 0

section

variable (m : (ℓ : Loc nD τ sig) → Buf (Elt F) ℓ)

/-- What every buffer of core `c` holds when the first call starts, -/
def atSearch (c : Dev nD) : Valuation τ sig (Elt F) := StableHlo.after hostOps0 (V0 m c)
/-- when the second starts, -/
def atLookup (c : Dev nD) : Valuation τ sig (Elt F) := afterRegion (Search.dat (atSearch m) c) (atSearch m c)
/-- when the second ends, -/
def atTail (c : Dev nD) : Valuation τ sig (Elt F) := afterRegion (Lookup.dat (atLookup m) c) (atLookup m c)
/-- and at the end. -/
def final (c : Dev nD) : Valuation τ sig (Elt F) := StableHlo.after hostOps2 (atTail m c)

/-- The two calls' proof data. -/
def pdats : (p : Fin 2) → (c : Dev nD) → Dat τ (Elt F) Unit ℕ (UR sig nD τ) ℕ (cfgs p) c
  | 0 => Search.dat (atSearch m)
  | 1 => Lookup.dat (atLookup m)

/-- What rides beside the buffers: the core owes nothing. -/
abbrev idleCore (c : Dev nD) : sProp 𝕄 :=
  iprop((∃ W, owes (c : Thread nD τ) (0 : CellTallies nD τ sig Unit) W) ∗ emp ∗ emp)

theorem cut (p : Fin 2) : Pipeline.LevelCut (pcfgs (F := F)) adm () ixs lvl p (fun _ => 0) (fun _ => 0) where
  hι c w s := by unfold ixs; rw [if_pos rfl]; exact Finset.mem_singleton_self _
  hιb c w s := le_refl _
  hD c g i h := absurd h (lt_irrefl 0)

/-- The first call as a segment of the run. -/
def searchSeg : RegionSeg (pcfgs (F := F)) adm (pdats m) () defs₀ Variants.none ixs lvl 0 :=
  RegionSeg.ofHeldIn _ _ _ _ _ _ _ _ 0 (fun _ => 0) (Pipeline.ucRefs τ sig) (fun _ => iprop(emp)) (fun _ => iprop(emp)) launch0.toP rfl
    (fun c => (Search.body_obligation (atSearch m) c).loose) (fun _ _ => rfl) (fun _ => rfl)
    (fun c => Dat.share_full _ fun _ => rfl)
    (fun c => by
      change iprop(Pipeline.scopedRest spec0 c ∗ emp) ⊢ (Search.dat (atSearch m) c).Φ 0
      iintro ⟨H, -⟩
      iapply (Search.inv_in (atSearch m) c)
      iexact H)
    (fun c => by
      refine (Search.inv_out (atSearch m) c _).trans ?_
      iintro H
      isplitl [H]; · iexact H
      iempintro)
    (fun _ => 0) (cut 0) (fun _ => iprop(emp)) (atSearch m) (fun c w => Search.dat_A (atSearch m) c w)

/-- The second call as a segment of the run. -/
def lookupSeg : RegionSeg (pcfgs (F := F)) adm (pdats m) () defs₀ Variants.none ixs lvl 1 :=
  RegionSeg.ofHeldIn _ _ _ _ _ _ _ _ 1 (fun _ => 0) (Pipeline.ucRefs τ sig) (fun _ => iprop(emp)) (fun _ => iprop(emp)) launch1.toP rfl
    (fun c => (Lookup.body_obligation (atLookup m) c).loose) (fun _ _ => rfl) (fun _ => rfl)
    (fun c => Dat.share_full _ fun _ => rfl)
    (fun c => by
      change iprop(Pipeline.scopedRest spec1 c ∗ emp) ⊢ Pipeline.scopedRest spec1 c
      iintro ⟨H, -⟩
      iexact H)
    (fun c => by
      change Pipeline.scopedRest spec1 c ⊢ iprop(Pipeline.scopedRest spec1 c ∗ emp)
      iintro H
      isplitl [H]; · iexact H
      iempintro)
    (fun _ => 0) (cut 1) (fun _ => iprop(emp)) (atLookup m) (fun c w => Lookup.dat_A (atLookup m) c w)

/-- The host operations before the calls, and those after them. -/
def headSeg : HostSeg (Ix := Unit) (Name := ℕ) (U := UR sig nD τ) (Lvl := ℕ) (pcfgs (F := F)) defs₀ Variants.none ixs lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) idleCore
def tailSeg : HostSeg (Ix := Unit) (Name := ℕ) (U := UR sig nD τ) (Lvl := ℕ) (pcfgs (F := F)) defs₀ Variants.none ixs lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (atTail m) idleCore

abbrev parts : List (Seg (pcfgs (F := F)) adm (pdats m) () defs₀ Variants.none ixs lvl) :=
  [.host (headSeg m), .region (searchSeg m), .region (lookupSeg m), .host (tailSeg m)]

end

variable (m : (ℓ : Loc nD τ sig) → Buf (Elt F) ℓ) (ρ : Dev nD → PrngReg)

/-! ## Each part starts where the one before ends -/

theorem enter_search (c : Dev nD) :
    iprop(StableHlo.held (c : Thread nD τ) (Pipeline.ucRefs τ sig) (atSearch m c) ∗ idleCore c) ⊢ (searchSeg m).pre c := by
  unfold searchSeg
  refine BI.Entails.trans ?_ (RegionSeg.ofHeldIn_pre (Pipeline.arrRefs_sub_ucRefs _ launch0.win.arr_unscoped) c)
  exact BI.Entails.refl _

theorem leave_search (c : Dev nD) :
    (searchSeg m).post c ⊢ iprop(StableHlo.held (c : Thread nD τ) (Pipeline.ucRefs τ sig) (atLookup m c) ∗ idleCore c) := by
  unfold searchSeg
  rw [show atLookup m c = afterRegion (pdats m 0 c) (atSearch m c) from rfl]
  exact RegionSeg.ofHeldIn_post (W := atSearch m) (Pipeline.arrRefs_sub_ucRefs _ launch0.win.arr_unscoped) c

theorem enter_lookup (c : Dev nD) :
    iprop(StableHlo.held (c : Thread nD τ) (Pipeline.ucRefs τ sig) (atLookup m c) ∗ idleCore c) ⊢ (lookupSeg m).pre c := by
  unfold lookupSeg
  refine BI.Entails.trans ?_ (RegionSeg.ofHeldIn_pre (Pipeline.arrRefs_sub_ucRefs _ launch1.win.arr_unscoped) c)
  exact BI.Entails.refl _

theorem leave_lookup (c : Dev nD) :
    (lookupSeg m).post c ⊢ iprop(StableHlo.held (c : Thread nD τ) (Pipeline.ucRefs τ sig) (atTail m c) ∗ idleCore c) := by
  unfold lookupSeg
  rw [show atTail m c = afterRegion (pdats m 1 c) (atLookup m c) from rfl]
  exact RegionSeg.ofHeldIn_post (W := atLookup m) (Pipeline.arrRefs_sub_ucRefs _ launch1.win.arr_unscoped) c

set_option maxHeartbeats 400000 in
set_option backward.isDefEq.respectTransparency.types false in
/-- Every run ends with every array at `final`'s value and every counter at zero. -/
theorem run_values :
    θ_run defs (onTc (τ := τ) (main (F := F))) ⟨m, fun _ => 0, ρ⟩ (fun r =>
      (∀ c : Dev nD, ∀ b ∈ Pipeline.ucRefs τ sig, r.2.mem ((c.tc : Thread nD τ).1, b) = final m c b) ∧ r.2.sem = fun _ => 0) := by
  refine Pipeline.θ_run_regions_kit_dev_sems (pcfgs (F := F)) adm (pdats m) () cellOf_inj emb₁ defs₀ Variants.none ixs lvl m ρ main
    (fun _ => parts m)
    (fun c Q => by
      rewrite [main_chain c, Seg.run_eq_chain,
        show (parts m).map Seg.prog = [StableHlo.seq hostOps0, Prog.lift (.customCall (Pipeline.entry 0) ()),
          Prog.lift (.customCall (Pipeline.entry 1) ()), StableHlo.seq hostOps2] from rfl]
      exact .rfl)
    (fun c => by simp only [parts, Seg.pipes_host, Seg.pipes_region, Seg.pipes_nil]; decide) 0
    (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ idleCore c))
    (Tₙ := fun c => StableHlo.held (c : Thread nD τ) (Pipeline.ucRefs τ sig) (final m c))
    (hch := fun c => ⟨.rfl, ?_, ?_, ?_, ?_⟩)
    (hinit := ?_)
    (QY := fun c s => ∀ b ∈ Pipeline.ucRefs τ sig, s.mem ((c.tc : Thread nD τ).1, b) = final m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact enter_search m c
  · exact (leave_search m c).trans (enter_lookup m c)
  · exact leave_lookup m c
  · refine sep_mono .rfl ?_
    iintro ⟨H, -⟩
    iexact H
  · refine Pipeline.initEach ixs lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c.tc : Thread nD τ).1, b)) (final m c) s') $$ [Hh HSI]
    · isplitl [Hh] <;> iassumption
    imodintro; iexact Hr

/-! ## What the run leaves, and what it leaves alone -/

theorem atLookup_of (c : Dev nD) (r : Ref sig .tc) (h : ∀ w, Pipeline.arrRef spec0 w = r → (cfg0.win w).isOut = false) :
    atLookup m c r = atSearch m c r :=
  Pipeline.afterRegion_keeps (Search.dat (atSearch m) c) (atSearch m c) launch0.win.arr_inj (fun w => Search.dat_A (atSearch m) c w) r h

theorem atTail_of (c : Dev nD) (r : Ref sig .tc) (h : ∀ w, Pipeline.arrRef spec1 w = r → (cfg1.win w).isOut = false) :
    atTail m c r = atLookup m c r :=
  Pipeline.afterRegion_keeps (Lookup.dat (atLookup m) c) (atLookup m c) launch1.win.arr_inj (fun w => Lookup.dat_A (atLookup m) c w) r h

theorem final_of (c : Dev nD) (r : Ref sig .tc) (h : r ∉ hostOps2_W) : final m c r = atTail m c r :=
  StableHlo.after_of_writes_sub hostOps2 _ hostOps2_writes h

theorem atSearch_of (c : Dev nD) (r : Ref sig .tc) (h : r ∉ hostOps0_W) : atSearch m c r = V0 m c r :=
  StableHlo.after_of_writes_sub hostOps0 _ hostOps0_writes h

theorem final_arg0 (c : Dev nD) : final m c main_arg0 = m ((c.tc : Thread nD τ).loc main_arg0) :=
  (final_of m c main_arg0 (by decide)).trans <| (atTail_of m c main_arg0 (by decide)).trans <|
    (atLookup_of m c main_arg0 (by decide)).trans <| (atSearch_of m c main_arg0 (by decide)).trans rfl

theorem final_arg1 (c : Dev nD) : final m c main_arg1 = m ((c.tc : Thread nD τ).loc main_arg1) :=
  (final_of m c main_arg1 (by decide)).trans <| (atTail_of m c main_arg1 (by decide)).trans <|
    (atLookup_of m c main_arg1 (by decide)).trans <| (atSearch_of m c main_arg1 (by decide)).trans rfl

theorem mem_ucRefs (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- Every run leaves the arguments as launched and every counter at zero. -/
theorem frame :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_ucRefs main_arg0 (by decide))).trans (final_arg0 m c),
      (h.1 c _ (mem_ucRefs main_arg1 (by decide))).trans (final_arg1 m c)⟩, h.2⟩) (run_values m ρ)

end Cert.KernelIdeal.Whole

end
-- ==== Proof.Transfer.lean ====
/- The kernel and its reading over the reals are one program text, so the frame of the one is the frame of the other. -/
module

public import proofs.«01_k».proof.Proof.Run
public import proofs.«01_k».proof.Proof.Gen.Kernel

@[expose] public section

noncomputable section

namespace Cert.Transfer

open Idealize.ShloMosaic Idealize.ShloMosaic.TcCoe Idealize.SL.Sem

variable {F : FTy → Type} [FloatOps F]

set_option maxRecDepth 65536 in
theorem main_eq : @Cert.Kernel.main F _ Cert.Kernel.Gen.facts = @Cert.KernelIdeal.main F _ Cert.KernelIdeal.Gen.facts := by
  with_unfolding_all rfl

set_option maxRecDepth 65536 in
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg (Defs.onTc (nD := Cert.Kernel.nD) (τ := Cert.Kernel.τ)) ?_
  funext l a
  match l, a with
  | 0, (t, s) => with_unfolding_all rfl
  | 1, (t, s) => with_unfolding_all rfl

set_option maxRecDepth 65536 in
theorem defs_eq : @Cert.Kernel.defs F _ Cert.Kernel.Gen.facts = @Cert.KernelIdeal.defs F _ Cert.KernelIdeal.Gen.facts := by
  unfold Cert.Kernel.defs Cert.KernelIdeal.defs
  have h := @defs₀_eq F _
  with_unfolding_all exact congrArg _ h

set_option maxRecDepth 65536 in
theorem kernel_frame (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (@Cert.Kernel.main F _ Cert.Kernel.Gen.facts))
      ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_eq, main_eq]
  with_unfolding_all exact Cert.KernelIdeal.Whole.frame m ρ

end Cert.Transfer

end
-- ==== Proof.Reference.lean ====
/- The reference as a list of host operations, and what it leaves in every buffer it returns. Its values are named in the
   steps of the problem: the scores of every row against every code, the index of the best score, the code looked up by
   that index, and the mean squared difference. -/
module

public import proofs.«01_k».proof.Proof.Gen.ReferenceIdeal
public import Idealize.ShloMosaic.Lib.StableHlo.Run
public import Idealize.ShloMosaic.Lib.Quiescent

@[expose] public section

noncomputable section

namespace Cert.ReferenceIdeal.Plain

open Cert.ReferenceIdeal Cert.ReferenceIdeal.Gen Idealize.ShloMosaic Idealize.ShloMosaic.TcCoe Idealize.SL.Sem Idealize.ShloMosaic.StableHlo

variable {F : FTy → Type} [FloatOps F]

/-- The rows to quantise, one per line. -/
def flat (x : Vec F S16x1024x32 .f32) : Vec F S16384x32 .f32 := shapeCast _ x shapeCasts_S16x1024x32_S16384x32

/-- The squared length of every row. -/
def rowSq (x : Vec F S16x1024x32 .f32) : Vec F S16384x1 .f32 :=
  broadcastInDim S16384x1 ![0] bcast_S16384_S16384x1_0
    (Host.reduceAdd (mulf (flat x) (flat x)) (constant S_ .f32 0x00000000#32) reducesTo_S16384x32_S16384_d1 h_S_)

/-- The squared length of every code. -/
def codeSq (w : Vec F S8192x32 .f32) : Vec F S1x8192 .f32 :=
  transpose S1x8192 [1, 0] (broadcastInDim S8192x1 ![0] bcast_S8192_S8192x1_0
    (Host.reduceAdd (mulf w w) (constant S_ .f32 0x00000000#32) reducesTo_S8192x32_S8192_d1 h_S_)) transposes_S8192x1_S1x8192_1_0

/-- The score of every code for every row: the negated squared distance. -/
def score (x : Vec F S16x1024x32 .f32) (w : Vec F S8192x32 .f32) : Vec F S16384x8192 .f32 :=
  Host.negf (addf (subf (broadcastInDim S16384x8192 ![0, 1] bcast_S16384x1_S16384x8192_0_1 (rowSq x))
      (mulf (broadcastInDim S16384x8192 ![] bcast_S_S16384x8192 (constant S_ .f32 0x40000000#32))
        (Host.dotGeneral dot_S16384x32_S32x8192_S16384x8192_1_0_0_1_n_n none (flat x)
          (transpose S32x8192 [1, 0] w transposes_S8192x32_S32x8192_1_0))))
    (broadcastInDim S16384x8192 ![0, 1] bcast_S1x8192_S16384x8192_0_1 (codeSq w)))

/-- The index of the best score in every row. -/
def pick (s : Vec F S16384x8192 .f32) : Vec F S16384 .i32 := fun j =>
  (Host.argReduce reducer_argmax_f32_i32 s (iotaInDim S16384x8192 32 1) (constant S_ .f32 0xFF800000#32) (constantI S_ 32 0#32)
    reducesTo_S16384x8192_S16384_d1 h_S_ j).2

/-- That index, in the shape of the input. -/
def index (x : Vec F S16x1024x32 .f32) (w : Vec F S8192x32 .f32) : Vec F S16x1024 .i32 :=
  shapeCast _ (pick (score x w)) shapeCasts_S16384_S16x1024

/-- An index counted from the end when it is negative. -/
def wrapped (i : Vec F S16x1024 .i32) : Vec F S16x1024x1 .i32 :=
  broadcastInDim S16x1024x1 ![0, 1] bcast_S16x1024_S16x1024x1_0_1
    (select (cmpi .slt i (broadcastInDim S16x1024 ![] bcast_S_S16x1024 (constantI S_ 32 0#32)))
      (addi i (broadcastInDim S16x1024 ![] bcast_S_S16x1024 (constantI S_ 32 8192#32))) i)

/-- Whether an index lies within the codebook. -/
def inside (i : Vec F S16x1024x1 .i32) : Vec F S16x1024 .i1 :=
  Host.reduce IntOp.andi
    (andi (cmpi .sge i (broadcastInDim S16x1024x1 ![] bcast_S_S16x1024x1 (constantI S_ 32 0#32)))
      (cmpi .sle i (broadcastInDim S16x1024x1 ![0, 1, 2] bcast_S1x1x1_S16x1024x1_0_1_2
        (broadcastInDim S1x1x1 ![2] bcast_S1_S1x1x1_2 (constantI S1 32 8191#32)))))
    (constantI S_ 1 1#1) reducesTo_S16x1024x1_S16x1024_d2 h_S_

/-- The codes at the indices `i`; not a number at an index outside the codebook. -/
def take (w : Vec F S8192x32 .f32) (i : Vec F S16x1024 .i32) : Vec F S16x1024x32 .f32 :=
  select (broadcastInDim S16x1024x32 ![0, 1] bcast_S16x1024_S16x1024x32_0_1 (inside (F := F) (wrapped (F := F) i)))
    (Host.gather gather_S8192x32_S16x1024x1_S16x1024x32_2_0_n_n_0_2_132 w (wrapped (F := F) i))
    (broadcastInDim S16x1024x32 ![] bcast_S_S16x1024x32 (constant S_ .f32 0x7FC00000#32))

/-- The quantised rows. -/
def quantised (x : Vec F S16x1024x32 .f32) (w : Vec F S8192x32 .f32) : Vec F S16x1024x32 .f32 := take w (index x w)

/-- The first result: the input moved by its difference to the quantised rows. -/
def feat (x : Vec F S16x1024x32 .f32) (w : Vec F S8192x32 .f32) : Vec F S16x1024x32 .f32 := addf (subf (quantised x w) x) x

/-- The third result: the mean squared difference. -/
def meanSq (x : Vec F S16x1024x32 .f32) (w : Vec F S8192x32 .f32) : Vec F S_ .f32 :=
  Host.divf (Host.reduceAdd (mulf (subf x (quantised x w)) (subf x (quantised x w))) (constant S_ .f32 0x00000000#32)
    reducesTo_S16x1024x32_S_d0_1_2 h_S_) (constant S_ .f32 0x49000000#32)

/-- The scores. -/
abbrev scoreOps : List (HloOp τ sig (Elt F)) :=
  [ reshape main_arg0 main_v0 (rfl : (.f32 : EltTy) = .f32) shapeCasts_S16x1024x32_S16384x32,
    binary main_v0 main_v0 main_v1 (mulf : (⟨S16384x32, .f32⟩ : BufTy).Contents (Elt F) → (⟨S16384x32, .f32⟩ : BufTy).Contents (Elt F) → (⟨S16384x32, .f32⟩ : BufTy).Contents (Elt F)),
    nullary main_cst (constant S_ .f32 0x00000000#32),
    binary main_v1 main_cst main_v2 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    binary main_arg1 main_arg1 main_v4 (mulf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x00000000#32),
    binary main_v4 main_cst_0 main_v5 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    unary main_v5 main_v6 (broadcastInDim S8192x1 ![0] bcast_S8192_S8192x1_0 : (⟨S8192, .f32⟩ : BufTy).Contents (Elt F) → (⟨S8192x1, .f32⟩ : BufTy).Contents (Elt F)),
    unary main_v6 main_v7 ((transpose S1x8192 [1, 0] · transposes_S8192x1_S1x8192_1_0) : (⟨S8192x1, .f32⟩ : BufTy).Contents (Elt F) → (⟨S1x8192, .f32⟩ : BufTy).Contents (Elt F)),
    unary main_arg1 main_v8 ((transpose S32x8192 [1, 0] · transposes_S8192x32_S32x8192_1_0) : (⟨S8192x32, .f32⟩ : BufTy).Contents (Elt F) → (⟨S32x8192, .f32⟩ : BufTy).Contents (Elt F)),
    binary main_v0 main_v8 main_v9 ((fun l r => Host.dotGeneral dot_S16384x32_S32x8192_S16384x8192_1_0_0_1_n_n none l r) : (⟨S16384x32, .f32⟩ : BufTy).Contents (Elt F) → (⟨S32x8192, .f32⟩ : BufTy).Contents (Elt F) → (⟨S16384x8192, .f32⟩ : BufTy).Contents (Elt F)),
    nullary main_cst_1 (constant S_ .f32 0x40000000#32),
    unary main_cst_1 main_v10 (broadcastInDim S16384x8192 ![] bcast_S_S16384x8192 : (⟨S_, .f32⟩ : BufTy).Contents (Elt F) → (⟨S16384x8192, .f32⟩ : BufTy).Contents (Elt F)),
    binary main_v10 main_v9 main_v11 (mulf : (⟨S16384x8192, .f32⟩ : BufTy).Contents (Elt F) → (⟨S16384x8192, .f32⟩ : BufTy).Contents (Elt F) → (⟨S16384x8192, .f32⟩ : BufTy).Contents (Elt F)),
    unary main_v3 main_v12 (broadcastInDim S16384x8192 ![0, 1] bcast_S16384x1_S16384x8192_0_1 : (⟨S16384x1, .f32⟩ : BufTy).Contents (Elt F) → (⟨S16384x8192, .f32⟩ : BufTy).Contents (Elt F)),
    binary main_v12 main_v11 main_v13 (subf : (⟨S16384x8192, .f32⟩ : BufTy).Contents (Elt F) → (⟨S16384x8192, .f32⟩ : BufTy).Contents (Elt F) → (⟨S16384x8192, .f32⟩ : BufTy).Contents (Elt F)),
    unary main_v7 main_v14 (broadcastInDim S16384x8192 ![0, 1] bcast_S1x8192_S16384x8192_0_1 : (⟨S1x8192, .f32⟩ : BufTy).Contents (Elt F) → (⟨S16384x8192, .f32⟩ : BufTy).Contents (Elt F)),
    binary main_v13 main_v14 main_v15 (addf : (⟨S16384x8192, .f32⟩ : BufTy).Contents (Elt F) → (⟨S16384x8192, .f32⟩ : BufTy).Contents (Elt F) → (⟨S16384x8192, .f32⟩ : BufTy).Contents (Elt F)),
    unary main_v15 main_v16 (Host.negf : (⟨S16384x8192, .f32⟩ : BufTy).Contents (Elt F) → (⟨S16384x8192, .f32⟩ : BufTy).Contents (Elt F)) ]

/-- The best index of every row. -/
abbrev pickOps : List (HloOp τ sig (Elt F)) :=
  [ TRef.nullary (TRef.of (T := ⟨S16384x8192, .i32⟩) main_call0_v0) (iotaInDim S16384x8192 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x8192, .f32⟩) main_v16) (TRef.of (T := ⟨S16384x8192, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x8192_S16384_d1 h_S_ j).1),
    TRef.quaternary (TRef.of (T := ⟨S16384x8192, .f32⟩) main_v16) (TRef.of (T := ⟨S16384x8192, .i32⟩) main_call0_v0) (TRef.of (T := ⟨S_, .f32⟩) main_call0_cst) (TRef.of (T := ⟨S_, .i32⟩) main_call0_c) (TRef.of (T := ⟨S16384, .i32⟩) main_v17) (fun x y u v j => (Host.argReduce reducer_argmax_f32_i32 x y u v reducesTo_S16384x8192_S16384_d1 h_S_ j).2) ]

/-- That index in the shape of the input, and the codes at it. -/
abbrev takeOps : List (HloOp τ sig (Elt F)) :=
  [ reshape main_v17 main_v18 (rfl : (.i32 : EltTy) = .i32) shapeCasts_S16384_S16x1024,
    TRef.nullary (TRef.of (T := ⟨S_, .i32⟩) main_call1_c) (constantI S_ 32 0#32),
    TRef.unary (TRef.of (T := ⟨S_, .i32⟩) main_call1_c) (TRef.of (T := ⟨S16x1024, .i32⟩) main_call1_v0) (broadcastInDim S16x1024 ![] bcast_S_S16x1024),
    TRef.binary (TRef.of (T := ⟨S16x1024, .i32⟩) main_v18) (TRef.of (T := ⟨S16x1024, .i32⟩) main_call1_v0) (TRef.of (T := ⟨S16x1024, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S16x1024, .i32⟩) main_call1_v2) (broadcastInDim S16x1024 ![] bcast_S_S16x1024),
    TRef.binary (TRef.of (T := ⟨S16x1024, .i32⟩) main_v18) (TRef.of (T := ⟨S16x1024, .i32⟩) main_call1_v2) (TRef.of (T := ⟨S16x1024, .i32⟩) main_call1_v3) addi,
    TRef.ternary (TRef.of (T := ⟨S16x1024, .i1⟩) main_call1_v1) (TRef.of (T := ⟨S16x1024, .i32⟩) main_call1_v3) (TRef.of (T := ⟨S16x1024, .i32⟩) main_v18) (TRef.of (T := ⟨S16x1024, .i32⟩) main_call1_v4) select,
    TRef.unary (TRef.of (T := ⟨S16x1024, .i32⟩) main_call1_v4) (TRef.of (T := ⟨S16x1024x1, .i32⟩) main_call1_v5) (broadcastInDim S16x1024x1 ![0, 1] bcast_S16x1024_S16x1024x1_0_1),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S16x1024x1, .i32⟩) main_call1_v6) (broadcastInDim S16x1024x1 ![] bcast_S_S16x1024x1),
    TRef.binary (TRef.of (T := ⟨S16x1024x1, .i32⟩) main_call1_v5) (TRef.of (T := ⟨S16x1024x1, .i32⟩) main_call1_v6) (TRef.of (T := ⟨S16x1024x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16x1024x1, .i32⟩) main_call1_v9) (broadcastInDim S16x1024x1 ![0, 1, 2] bcast_S1x1x1_S16x1024x1_0_1_2),
    TRef.binary (TRef.of (T := ⟨S16x1024x1, .i32⟩) main_call1_v5) (TRef.of (T := ⟨S16x1024x1, .i32⟩) main_call1_v9) (TRef.of (T := ⟨S16x1024x1, .i1⟩) main_call1_v10) (cmpi .sle),
    TRef.binary (TRef.of (T := ⟨S16x1024x1, .i1⟩) main_call1_v7) (TRef.of (T := ⟨S16x1024x1, .i1⟩) main_call1_v10) (TRef.of (T := ⟨S16x1024x1, .i1⟩) main_call1_v11) andi,
    TRef.nullary (TRef.of (T := ⟨S_, .i1⟩) main_call1_c_3) (constantI S_ 1 1#1),
    TRef.binary (TRef.of (T := ⟨S16x1024x1, .i1⟩) main_call1_v11) (TRef.of (T := ⟨S_, .i1⟩) main_call1_c_3) (TRef.of (T := ⟨S16x1024, .i1⟩) main_call1_v12) (fun x v => Host.reduce IntOp.andi x v reducesTo_S16x1024x1_S16x1024_d2 h_S_),
    TRef.binary (TRef.of (T := ⟨S8192x32, .f32⟩) main_arg1) (TRef.of (T := ⟨S16x1024x1, .i32⟩) main_call1_v5) (TRef.of (T := ⟨S16x1024x32, .f32⟩) main_call1_v13) (fun x i => Host.gather gather_S8192x32_S16x1024x1_S16x1024x32_2_0_n_n_0_2_132 x i),
    TRef.unary (TRef.of (T := ⟨S16x1024, .i1⟩) main_call1_v12) (TRef.of (T := ⟨S16x1024x32, .i1⟩) main_call1_v14) (broadcastInDim S16x1024x32 ![0, 1] bcast_S16x1024_S16x1024x32_0_1),
    TRef.nullary (TRef.of (T := ⟨S_, .f32⟩) main_call1_cst) (constant S_ .f32 0x7FC00000#32),
    TRef.unary (TRef.of (T := ⟨S_, .f32⟩) main_call1_cst) (TRef.of (T := ⟨S16x1024x32, .f32⟩) main_call1_v15) (broadcastInDim S16x1024x32 ![] bcast_S_S16x1024x32),
    TRef.ternary (TRef.of (T := ⟨S16x1024x32, .i1⟩) main_call1_v14) (TRef.of (T := ⟨S16x1024x32, .f32⟩) main_call1_v13) (TRef.of (T := ⟨S16x1024x32, .f32⟩) main_call1_v15) (TRef.of (T := ⟨S16x1024x32, .f32⟩) main_v19) select ]

/-- The first and the third result. -/
abbrev lastOps : List (HloOp τ sig (Elt F)) :=
  [ binary main_v19 main_arg0 main_v20 (subf : (⟨S16x1024x32, .f32⟩ : BufTy).Contents (Elt F) → (⟨S16x1024x32, .f32⟩ : BufTy).Contents (Elt F) → (⟨S16x1024x32, .f32⟩ : BufTy).Contents (Elt F)),
    binary main_v20 main_arg0 main_v21 (addf : (⟨S16x1024x32, .f32⟩ : BufTy).Contents (Elt F) → (⟨S16x1024x32, .f32⟩ : BufTy).Contents (Elt F) → (⟨S16x1024x32, .f32⟩ : BufTy).Contents (Elt F)),
    binary main_arg0 main_v19 main_v22 (subf : (⟨S16x1024x32, .f32⟩ : BufTy).Contents (Elt F) → (⟨S16x1024x32, .f32⟩ : BufTy).Contents (Elt F) → (⟨S16x1024x32, .f32⟩ : BufTy).Contents (Elt F)),
    binary main_v22 main_v22 main_v23 (mulf : (⟨S16x1024x32, .f32⟩ : BufTy).Contents (Elt F) → (⟨S16x1024x32, .f32⟩ : BufTy).Contents (Elt F) → (⟨S16x1024x32, .f32⟩ : BufTy).Contents (Elt F)),
    nullary main_cst_2 (constant S_ .f32 0x00000000#32),
    binary main_v23 main_cst_2 main_v24 ((fun x v => Host.reduceAdd x v reducesTo_S16x1024x32_S_d0_1_2 h_S_) : (⟨S16x1024x32, .f32⟩ : BufTy).Contents (Elt F) → (⟨S_, .f32⟩ : BufTy).Contents (Elt F) → (⟨S_, .f32⟩ : BufTy).Contents (Elt F)),
    nullary main_cst_3 (constant S_ .f32 0x49000000#32),
    binary main_v24 main_cst_3 main_v25 (Host.divf : (⟨S_, .f32⟩ : BufTy).Contents (Elt F) → (⟨S_, .f32⟩ : BufTy).Contents (Elt F) → (⟨S_, .f32⟩ : BufTy).Contents (Elt F)) ]

/-- The operations in order. -/
abbrev ops : List (HloOp τ sig (Elt F)) := scoreOps ++ (pickOps ++ (takeOps ++ lastOps))

set_option maxRecDepth 8192 in
theorem main_ops (c : Dev nD) : main (F := F) c = seq ops := rfl

theorem none_scoped : (Finset.univ.filter fun b : Ref sig .tc => b.isScoped) = ∅ := by decide

theorem no_counter_scoped : (Finset.univ.filter fun sm : SemLoc sig => sm.isScoped .tc) = ∅ := by decide

theorem scoreOps_core : (scoreOps : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., nullary_bufs_sub .., unary_bufs_sub .., binary_bufs_sub .., unary_bufs_sub .., binary_bufs_sub .., unary_bufs_sub .., binary_bufs_sub .., unary_bufs_sub ..⟩

theorem pickOps_core : (pickOps : List (HloOp τ sig (Elt F))).Forall fun op => op.bufs ⊆ tcRefs τ sig :=
  ⟨nullary_bufs_sub .., nullary_bufs_sub .., nullary_bufs_sub .., quaternary_bufs_sub .., quaternary_bufs_sub ..⟩

theorem takeOps_core : (takeOps : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem lastOps_core : (lastOps : List (HloOp τ sig (Elt F))).Forall fun op => op.bufs ⊆ tcRefs τ sig :=
  ⟨binary_bufs_sub .., binary_bufs_sub .., binary_bufs_sub .., binary_bufs_sub .., nullary_bufs_sub .., binary_bufs_sub .., nullary_bufs_sub .., binary_bufs_sub ..⟩

theorem ops_core : (ops : List (HloOp τ sig (Elt F))).Forall fun op => op.bufs ⊆ tcRefs τ sig :=
  List.forall_append.2 ⟨scoreOps_core, List.forall_append.2 ⟨pickOps_core, List.forall_append.2 ⟨takeOps_core, lastOps_core⟩⟩⟩

section

variable (V : Valuation τ sig (Elt F))

set_option maxRecDepth 8192 in
theorem score_after : after scoreOps V (Proc.devRef .tc main_v16) = score (F := F) (V (Proc.devRef .tc main_arg0)) (V (Proc.devRef .tc main_arg1)) := by
  unfold score rowSq codeSq flat
  simp only [scoreOps, TRef.binary, TRef.nullary, TRef.ternary, TRef.quaternary, TRef.unary, TRef.toBuf, TRef.ofBuf, cast_eq]
  after_results_simp <;> rfl

set_option maxRecDepth 8192 in
theorem pick_after : after pickOps V (Proc.devRef .tc main_v17) = pick (F := F) (V (Proc.devRef .tc main_v16)) := by
  unfold pick
  simp only [pickOps, TRef.binary, TRef.nullary, TRef.ternary, TRef.quaternary, TRef.unary, TRef.toBuf, TRef.ofBuf, cast_eq]
  after_results_simp <;> rfl

set_option maxRecDepth 8192 in
theorem index_after : after takeOps V (Proc.devRef .tc main_v18) = shapeCast S16x1024 (show Vec F S16384 .i32 from V (Proc.devRef .tc main_v17)) shapeCasts_S16384_S16x1024 := by
  simp only [takeOps, TRef.binary, TRef.nullary, TRef.ternary, TRef.quaternary, TRef.unary, TRef.toBuf, TRef.ofBuf, cast_eq]
  after_results_simp <;> rfl

set_option maxRecDepth 8192 in
theorem take_after : after takeOps V (Proc.devRef .tc main_v19) = take (F := F) (V (Proc.devRef .tc main_arg1)) (shapeCast S16x1024 (show Vec F S16384 .i32 from V (Proc.devRef .tc main_v17)) shapeCasts_S16384_S16x1024) := by
  unfold take inside wrapped
  simp only [takeOps, TRef.binary, TRef.nullary, TRef.ternary, TRef.quaternary, TRef.unary, TRef.toBuf, TRef.ofBuf, cast_eq]
  after_results_simp <;> rfl

set_option maxRecDepth 8192 in
theorem feat_after : after lastOps V (Proc.devRef .tc main_v21) = addf (F := F) (subf (F := F) (show Vec F S16x1024x32 .f32 from V (Proc.devRef .tc main_v19)) (V (Proc.devRef .tc main_arg0))) (V (Proc.devRef .tc main_arg0)) := by
  simp only [lastOps, TRef.binary, TRef.nullary, TRef.ternary, TRef.quaternary, TRef.unary, TRef.toBuf, TRef.ofBuf, cast_eq]
  after_results_simp <;> rfl

set_option maxRecDepth 8192 in
theorem meanSq_after : after lastOps V (Proc.devRef .tc main_v25) = Host.divf (F := F) (Host.reduceAdd (F := F)
      (mulf (F := F) (subf (F := F) (V (Proc.devRef .tc main_arg0)) (show Vec F S16x1024x32 .f32 from V (Proc.devRef .tc main_v19))) (subf (F := F) (V (Proc.devRef .tc main_arg0)) (show Vec F S16x1024x32 .f32 from V (Proc.devRef .tc main_v19))))
      (constant S_ .f32 0x00000000#32) reducesTo_S16x1024x32_S_d0_1_2 h_S_) (constant S_ .f32 0x49000000#32) := by
  simp only [lastOps, TRef.binary, TRef.nullary, TRef.ternary, TRef.quaternary, TRef.unary, TRef.toBuf, TRef.ofBuf, cast_eq]
  after_results_simp <;> rfl

set_option maxRecDepth 8192 in
theorem scoreOps_keeps_main_arg0 : after scoreOps V (Proc.devRef .tc main_arg0) = V (Proc.devRef .tc main_arg0) := by
  simp only [scoreOps, TRef.binary, TRef.nullary, TRef.ternary, TRef.quaternary, TRef.unary, TRef.toBuf, TRef.ofBuf, cast_eq]
  after_results_simp <;> rfl

set_option maxRecDepth 8192 in
theorem scoreOps_keeps_main_arg1 : after scoreOps V (Proc.devRef .tc main_arg1) = V (Proc.devRef .tc main_arg1) := by
  simp only [scoreOps, TRef.binary, TRef.nullary, TRef.ternary, TRef.quaternary, TRef.unary, TRef.toBuf, TRef.ofBuf, cast_eq]
  after_results_simp <;> rfl

set_option maxRecDepth 8192 in
theorem pickOps_keeps_main_arg0 : after pickOps V (Proc.devRef .tc main_arg0) = V (Proc.devRef .tc main_arg0) := by
  simp only [pickOps, TRef.binary, TRef.nullary, TRef.ternary, TRef.quaternary, TRef.unary, TRef.toBuf, TRef.ofBuf, cast_eq]
  after_results_simp <;> rfl

set_option maxRecDepth 8192 in
theorem pickOps_keeps_main_arg1 : after pickOps V (Proc.devRef .tc main_arg1) = V (Proc.devRef .tc main_arg1) := by
  simp only [pickOps, TRef.binary, TRef.nullary, TRef.ternary, TRef.quaternary, TRef.unary, TRef.toBuf, TRef.ofBuf, cast_eq]
  after_results_simp <;> rfl

set_option maxRecDepth 8192 in
theorem takeOps_keeps_main_arg0 : after takeOps V (Proc.devRef .tc main_arg0) = V (Proc.devRef .tc main_arg0) := by
  simp only [takeOps, TRef.binary, TRef.nullary, TRef.ternary, TRef.quaternary, TRef.unary, TRef.toBuf, TRef.ofBuf, cast_eq]
  after_results_simp <;> rfl

set_option maxRecDepth 8192 in
theorem takeOps_keeps_main_arg1 : after takeOps V (Proc.devRef .tc main_arg1) = V (Proc.devRef .tc main_arg1) := by
  simp only [takeOps, TRef.binary, TRef.nullary, TRef.ternary, TRef.quaternary, TRef.unary, TRef.toBuf, TRef.ofBuf, cast_eq]
  after_results_simp <;> rfl

set_option maxRecDepth 8192 in
theorem lastOps_keeps_main_arg0 : after lastOps V (Proc.devRef .tc main_arg0) = V (Proc.devRef .tc main_arg0) := by
  simp only [lastOps, TRef.binary, TRef.nullary, TRef.ternary, TRef.quaternary, TRef.unary, TRef.toBuf, TRef.ofBuf, cast_eq]
  after_results_simp <;> rfl

set_option maxRecDepth 8192 in
theorem lastOps_keeps_main_arg1 : after lastOps V (Proc.devRef .tc main_arg1) = V (Proc.devRef .tc main_arg1) := by
  simp only [lastOps, TRef.binary, TRef.nullary, TRef.ternary, TRef.quaternary, TRef.unary, TRef.toBuf, TRef.ofBuf, cast_eq]
  after_results_simp <;> rfl

set_option maxRecDepth 8192 in
theorem lastOps_keeps_main_v18 : after lastOps V (Proc.devRef .tc main_v18) = V (Proc.devRef .tc main_v18) := by
  simp only [lastOps, TRef.binary, TRef.nullary, TRef.ternary, TRef.quaternary, TRef.unary, TRef.toBuf, TRef.ofBuf, cast_eq]
  after_results_simp <;> rfl

end

section

variable (m : (ℓ : Loc nD τ sig) → Buf (Elt F) ℓ) (c : Dev nD)

/-- The two arguments on core `c`. -/
abbrev argX : Vec F S16x1024x32 .f32 := m ((c.tc : Thread nD τ).loc main_arg0)
abbrev argW : Vec F S8192x32 .f32 := m ((c.tc : Thread nD τ).loc main_arg1)

/-- Running one list of operations after another. -/
theorem after_both (a b : List (HloOp τ sig (Elt F))) (V : Valuation τ sig (Elt F)) : after (a ++ b) V = after b (after a V) := by
  induction a generalizing V with
  | nil => rfl
  | cons op a ih => exact ih _

theorem after_split (V : Valuation τ sig (Elt F)) :
    after ops V = after lastOps (after takeOps (after pickOps (after scoreOps V))) := by
  rw [after_both, after_both, after_both]

theorem after_arg0 : after ops (launchContents m c) (Proc.devRef .tc main_arg0) = argX m c := by
  rw [after_split, lastOps_keeps_main_arg0, takeOps_keeps_main_arg0, pickOps_keeps_main_arg0, scoreOps_keeps_main_arg0]

theorem after_arg1 : after ops (launchContents m c) (Proc.devRef .tc main_arg1) = argW m c := by
  rw [after_split, lastOps_keeps_main_arg1, takeOps_keeps_main_arg1, pickOps_keeps_main_arg1, scoreOps_keeps_main_arg1]

theorem after_v17 : after pickOps (after scoreOps (launchContents m c)) (Proc.devRef .tc main_v17)
    = pick (score (argX m c) (argW m c)) := by
  rw [pick_after, score_after]

theorem after_v18 : after ops (launchContents m c) (Proc.devRef .tc main_v18) = index (argX m c) (argW m c) := by
  rw [after_split, lastOps_keeps_main_v18, index_after, after_v17]; unfold index; rfl

theorem after_v19 : after takeOps (after pickOps (after scoreOps (launchContents m c))) (Proc.devRef .tc main_v19)
    = quantised (argX m c) (argW m c) := by
  rw [take_after, after_v17, pickOps_keeps_main_arg1, scoreOps_keeps_main_arg1]; unfold quantised index; rfl

theorem after_x : after takeOps (after pickOps (after scoreOps (launchContents m c))) (Proc.devRef .tc main_arg0) = argX m c := by
  rw [takeOps_keeps_main_arg0, pickOps_keeps_main_arg0, scoreOps_keeps_main_arg0]

theorem after_v21 : after ops (launchContents m c) (Proc.devRef .tc main_v21) = feat (argX m c) (argW m c) := by
  rw [after_split, feat_after, after_v19, after_x]; unfold feat; rfl

theorem after_v25 : after ops (launchContents m c) (Proc.devRef .tc main_v25) = meanSq (argX m c) (argW m c) := by
  rw [after_split, meanSq_after, after_v19, after_x]; unfold meanSq; rfl

end

/-- From any memory with zero counters the reference ends with its three results at the named values, its arguments
    unchanged and every counter zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v21) = feat (argX m c) (argW m c)
      ∧ r.2.mem ((c.tc : Thread nD τ).loc main_v18) = index (argX m c) (argW m c)
      ∧ r.2.mem ((c.tc : Thread nD τ).loc main_v25) = meanSq (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c => ⟨(h c main_v21).trans (after_v21 m c), (h c main_v18).trans (after_v18 m c),
      (h c main_v25).trans (after_v25 m c), (h c main_arg0).trans (after_arg0 m c), (h c main_arg1).trans (after_arg1 m c)⟩,
      sem_eq_zero_of_no_sems rfl _⟩)
    (run_seq none_scoped no_counter_scoped defs main (fun _ => ops) main_ops (fun _ => ops_core) m ρ)

end Cert.ReferenceIdeal.Plain

end
-- ==== Proof.SearchReads.lean ====
/- Which elements of the arrays the first call's blocks are: at point `t` rows `256 (t / 8)` and on, codes `1024 (t mod 8)` and
   on. -/
module

public import proofs.«01_k».proof.Proof.SearchRegion
public import Idealize.ShloMosaic.Lib.Pointwise

@[expose] public section

set_option maxRecDepth 16384

noncomputable section

namespace Cert.KernelIdeal.Search

open Cert.KernelIdeal Cert.KernelIdeal.Gen Idealize.ShloMosaic Idealize.ShloMosaic.TcCoe

variable {F : FTy → Type} [FloatOps F] (V : Dev nD → Valuation τ sig (Elt F)) (c : Dev nD)

theorem index_0 : ∀ t : Fin cfg0.N, win0_0.index t 0 = t.val / 8 ∧ win0_0.index t 1 = 0 := by decide +kernel
theorem index_1 : ∀ t : Fin cfg0.N, win0_1.index t 0 = t.val % 8 ∧ win0_1.index t 1 = 0 := by decide +kernel
theorem index_2 : ∀ t : Fin cfg0.N, win0_2.index t 0 = t.val / 8 ∧ win0_2.index t 1 = 0 := by decide +kernel
theorem index_3 : ∀ t : Fin cfg0.N, win0_3.index t 0 = 0 ∧ win0_3.index t 1 = t.val % 8 := by decide +kernel
theorem index_4 : ∀ t : Fin cfg0.N, win0_4.index t 0 = t.val / 8 ∧ win0_4.index t 1 = 0 ∧ win0_4.index t 2 = 0 := by decide +kernel

/-- The second coordinate of a point: which block of codes it reads. -/
theorem coord_1 : ∀ t : Fin cfg0.N, (grid0.coords t 1).val = t.val % 8 := by decide +kernel

theorem lt_512 (t : Fin cfg0.N) : t.val < 512 := lt_of_lt_of_eq t.isLt N_0

/-- Row `r` of point `t`'s block, in the array. -/
def rowAt (t : Fin cfg0.N) (r : Fin 256) : Fin 16384 := ⟨t.val / 8 * 256 + r.val, by have := lt_512 t; have := r.isLt; omega⟩
/-- Code `j` of point `t`'s block, in the array. -/
def codeAt (t : Fin cfg0.N) (j : Fin 1024) : Fin 8192 := ⟨t.val % 8 * 1024 + j.val, by have := j.isLt; omega⟩

/-- The arrays the call finds: the rows, the codes, and their squared lengths. -/
abbrev rows : Vec F S16384x32 .f32 := V c main_v0
abbrev codes : Vec F S8192x32 .f32 := V c main_arg1
abbrev rowSqs : Vec F S16384x1 .f32 := V c main_v3
abbrev codeSqs : Vec F S1x8192 .f32 := V c main_v7

theorem rowBlk_apply (t : Fin cfg0.N) (r : Fin 256) (l : Fin 32) :
    rowBlk V c t (ix2 r l) = rows V c (ix2 (rowAt t r) l) := by
  unfold rowBlk iblk
  rw [View.read_apply]
  show V c main_v0 _ = V c main_v0 _
  congr 1
  funext a
  apply Fin.ext
  match a with
  | ⟨0, _⟩ => show win0_0.index t 0 * 256 + 1 * r.val = t.val / 8 * 256 + r.val; rw [(index_0 t).1]; omega
  | ⟨1, _⟩ => show win0_0.index t 1 * 32 + 1 * l.val = l.val; rw [(index_0 t).2]; omega

theorem codeBlk_apply (t : Fin cfg0.N) (j : Fin 1024) (l : Fin 32) :
    codeBlk V c t (ix2 j l) = codes V c (ix2 (codeAt t j) l) := by
  unfold codeBlk iblk
  rw [View.read_apply]
  show V c main_arg1 _ = V c main_arg1 _
  congr 1
  funext a
  apply Fin.ext
  match a with
  | ⟨0, _⟩ => show win0_1.index t 0 * 1024 + 1 * j.val = t.val % 8 * 1024 + j.val; rw [(index_1 t).1]; omega
  | ⟨1, _⟩ => show win0_1.index t 1 * 32 + 1 * l.val = l.val; rw [(index_1 t).2]; omega

theorem rowSq_apply (t : Fin cfg0.N) (r : Fin 256) :
    rowSq V c t (ix2 r 0) = rowSqs V c (ix2 (rowAt t r) 0) := by
  unfold rowSq iblk
  rw [View.read_apply]
  show V c main_v3 _ = V c main_v3 _
  congr 1
  funext a
  apply Fin.ext
  match a with
  | ⟨0, _⟩ => show win0_2.index t 0 * 256 + 1 * r.val = t.val / 8 * 256 + r.val; rw [(index_2 t).1]; omega
  | ⟨1, _⟩ => show win0_2.index t 1 * 1 + 1 * 0 = 0; rw [(index_2 t).2]

theorem codeSq_apply (t : Fin cfg0.N) (j : Fin 1024) :
    codeSq V c t (ix2 0 j) = codeSqs V c (ix2 0 (codeAt t j)) := by
  unfold codeSq iblk
  rw [View.read_apply]
  show V c main_v7 _ = V c main_v7 _
  congr 1
  funext a
  apply Fin.ext
  match a with
  | ⟨0, _⟩ => show win0_3.index t 0 * 1 + 1 * 0 = 0; rw [(index_3 t).1]
  | ⟨1, _⟩ => show win0_3.index t 1 * 1024 + 1 * j.val = t.val % 8 * 1024 + j.val; rw [(index_3 t).2]; omega

end Cert.KernelIdeal.Search

end

end
-- ==== Proof.LookupReads.lean ====
/- Which elements of the arrays the second call's blocks are: at point `t` rows `256 (t / 8)` and on, codes `1024 (t mod 8)`
   and on. -/
module

public import proofs.«01_k».proof.Proof.LookupRegion
public import Idealize.ShloMosaic.Lib.Pointwise

@[expose] public section

set_option maxRecDepth 16384

noncomputable section

namespace Cert.KernelIdeal.Lookup

open Cert.KernelIdeal Cert.KernelIdeal.Gen Idealize.ShloMosaic Idealize.ShloMosaic.TcCoe

variable {F : FTy → Type} [FloatOps F] (V : Dev nD → Valuation τ sig (Elt F)) (c : Dev nD)

theorem index_0 : ∀ t : Fin cfg1.N, win1_0.index t 0 = t.val / 8 ∧ win1_0.index t 1 = 0 ∧ win1_0.index t 2 = 0 := by decide +kernel
theorem index_1 : ∀ t : Fin cfg1.N, win1_1.index t 0 = t.val / 8 ∧ win1_1.index t 1 = 0 := by decide +kernel
theorem index_2 : ∀ t : Fin cfg1.N, win1_2.index t 0 = t.val % 8 ∧ win1_2.index t 1 = 0 := by decide +kernel
theorem index_3 : ∀ t : Fin cfg1.N, win1_3.index t 0 = t.val / 8 ∧ win1_3.index t 1 = 0 := by decide +kernel
theorem index_4 : ∀ t : Fin cfg1.N, win1_4.index t 0 = 0 ∧ win1_4.index t 1 = 0 := by decide +kernel

/-- The second coordinate of a point: which block of codes it reads. -/
theorem coord_1 : ∀ t : Fin cfg1.N, (grid1.coords t 1).val = t.val % 8 := by decide +kernel

theorem lt_512 (t : Fin cfg1.N) : t.val < 512 := lt_of_lt_of_eq t.isLt N_1

/-- Row `r` of point `t`'s block, in the array. -/
def rowAt (t : Fin cfg1.N) (r : Fin 256) : Fin 16384 := ⟨t.val / 8 * 256 + r.val, by have := lt_512 t; have := r.isLt; omega⟩
/-- The block of rows of point `t`. -/
def rowsOf (t : Fin cfg1.N) : Fin 64 := ⟨t.val / 8, by have := lt_512 t; omega⟩
/-- Code `j` of point `t`'s block, in the array. -/
def codeAt (t : Fin cfg1.N) (j : Fin 1024) : Fin 8192 := ⟨t.val % 8 * 1024 + j.val, by have := j.isLt; omega⟩

/-- The arrays the call finds: the chosen indices, the rows and the codes. -/
abbrev indices : Vec F S64x256x1 .i32 := V c main_v8
abbrev rows : Vec F S16384x32 .f32 := V c main_v0
abbrev codes : Vec F S8192x32 .f32 := V c main_arg1

theorem idxBlk_apply (t : Fin cfg1.N) (r : Fin 256) :
    idxBlk V c t (ix3 0 r 0) = indices V c (ix3 (rowsOf t) r 0) := by
  unfold idxBlk iblk
  rw [View.read_apply]
  show V c main_v8 _ = V c main_v8 _
  congr 1
  funext a
  apply Fin.ext
  match a with
  | ⟨0, _⟩ => show win1_0.index t 0 * 1 + 1 * 0 = t.val / 8; rw [(index_0 t).1]; omega
  | ⟨1, _⟩ => show win1_0.index t 1 * 256 + 1 * r.val = r.val; rw [(index_0 t).2.1]; omega
  | ⟨2, _⟩ => show win1_0.index t 2 * 1 + 1 * 0 = 0; rw [(index_0 t).2.2]

theorem rowBlk_apply (t : Fin cfg1.N) (r : Fin 256) (l : Fin 32) :
    rowBlk V c t (ix2 r l) = rows V c (ix2 (rowAt t r) l) := by
  unfold rowBlk iblk
  rw [View.read_apply]
  show V c main_v0 _ = V c main_v0 _
  congr 1
  funext a
  apply Fin.ext
  match a with
  | ⟨0, _⟩ => show win1_1.index t 0 * 256 + 1 * r.val = t.val / 8 * 256 + r.val; rw [(index_1 t).1]; omega
  | ⟨1, _⟩ => show win1_1.index t 1 * 32 + 1 * l.val = l.val; rw [(index_1 t).2]; omega

theorem codeBlk_apply (t : Fin cfg1.N) (j : Fin 1024) (l : Fin 32) :
    codeBlk V c t (ix2 j l) = codes V c (ix2 (codeAt t j) l) := by
  unfold codeBlk iblk
  rw [View.read_apply]
  show V c main_arg1 _ = V c main_arg1 _
  congr 1
  funext a
  apply Fin.ext
  match a with
  | ⟨0, _⟩ => show win1_2.index t 0 * 1024 + 1 * j.val = t.val % 8 * 1024 + j.val; rw [(index_2 t).1]; omega
  | ⟨1, _⟩ => show win1_2.index t 1 * 32 + 1 * l.val = l.val; rw [(index_2 t).2]; omega

end Cert.KernelIdeal.Lookup

end

end
-- ==== Proof.Arrays.lean ====
/- What the result arrays of the two calls hold once every block has been written back. -/
module

public import proofs.«01_k».proof.Proof.SearchReads
public import proofs.«01_k».proof.Proof.LookupReads

@[expose] public section

set_option maxRecDepth 16384

noncomputable section

namespace Cert.KernelIdeal

open Cert.KernelIdeal Cert.KernelIdeal.Gen Idealize.ShloMosaic Idealize.ShloMosaic.TcCoe

variable {F : FTy → Type} [FloatOps F] (V : Dev nD → Valuation τ sig (Elt F)) (c : Dev nD)

namespace Search

/-- The array of indices: block `q` as written at the last point of that block of rows. -/
def written : Vec F S64x256x1 .i32 := fun j => emitted V c (8 * (j 0).val + 7) (ix3 (n0 := 1) (n1 := 256) (n2 := 1) 0 (j 1) 0)

theorem flushed_4 (t : Fin cfg0.N) (hf : (cfg0.win 4).flush t = true) :
    (dat V c).flushed 4 t = ((cfg0.win 4).blk t).view.read (Elt F) (written V c) := by
  have h7 := (flush0_4 t).mp hf
  have ht := lt_512 t
  show (cfg0.win 4).cut (grid0.coords t) ((dat V c).after 4 t) = _
  rw [after_4]
  funext j
  rw [View.read_apply]
  show emitted V c t.val _ = written V c _
  have h0 : (j 0).val = 0 := Nat.lt_one_iff.1 (j 0).isLt
  have h2 : (j 2).val = 0 := Nat.lt_one_iff.1 (j 2).isLt
  unfold written
  have hn : 8 * (t.val / 8) + 7 = t.val := by omega
  congr 1
  · show t.val = 8 * (win0_4.index t 0 * 1 + 1 * (j 0).val) + 7
    rw [(index_4 t).1, h0]
    omega
  · funext a
    apply Fin.ext
    match a with
    | ⟨0, _⟩ => exact h0
    | ⟨1, _⟩ => show (j 1).val = win0_4.index t 1 * 256 + 1 * (j 1).val; rw [(index_4 t).2.1]; omega
    | ⟨2, _⟩ => exact h2

theorem arrAt_4 : (dat V c).arrAt 4 cfg0.N = written V c :=
  (dat V c).arrAt_eq_of_cover 4 (written V c) (flushed_4 V c) fun i => by
    have h0 : (i 0 : Nat) < 64 := (i 0).isLt
    have h1 : (i 1 : Nat) < 256 := (i 1).isLt
    have h2 : (i 2 : Nat) < 1 := (i 2).isLt
    have hlt : 8 * (i 0 : Nat) + 7 < cfg0.N := lt_of_lt_of_eq (show _ < 512 by omega) N_0.symm
    refine ⟨⟨8 * (i 0 : Nat) + 7, hlt⟩, (flush0_4 _).mpr (by dsimp only; omega), ?_⟩
    generalize hT : (⟨8 * (i 0 : Nat) + 7, hlt⟩ : Fin cfg0.N) = T
    have hv : T.val = 8 * (i 0 : Nat) + 7 := by rw [← hT]
    show i ∈ ((View.whole main_v8).slice (win0_4.rect T)).set
    rw [View.set_slice_whole, Rect.mem_set_unit]
    intro a
    match a with
    | ⟨0, _⟩ =>
      show win0_4.index T 0 * 1 ≤ (i 0 : Nat) ∧ (i 0 : Nat) < win0_4.index T 0 * 1 + 1
      rw [(index_4 T).1, hv]; omega
    | ⟨1, _⟩ =>
      show win0_4.index T 1 * 256 ≤ (i 1 : Nat) ∧ (i 1 : Nat) < win0_4.index T 1 * 256 + 256
      rw [(index_4 T).2.1]; omega
    | ⟨2, _⟩ =>
      show win0_4.index T 2 * 1 ≤ (i 2 : Nat) ∧ (i 2 : Nat) < win0_4.index T 2 * 1 + 1
      rw [(index_4 T).2.2]; omega

end Search

namespace Lookup

/-- The array of moved rows: each as written at the last point of its block. -/
def moved : Vec F S16384x32 .f32 := fun j =>
  lookOut V c (8 * ((j 0).val / 256) + 7) (ix2 (n0 := 256) (n1 := 32) ⟨(j 0).val % 256, Nat.mod_lt _ (by decide)⟩ (j 1))

theorem flushed_3 (t : Fin cfg1.N) (hf : (cfg1.win 3).flush t = true) :
    (dat V c).flushed 3 t = ((cfg1.win 3).blk t).view.read (Elt F) (moved V c) := by
  have h7 := (flush1_3 t).mp hf
  have ht := lt_512 t
  show (cfg1.win 3).cut (grid1.coords t) ((dat V c).after 3 t) = _
  rw [after_3]
  funext j
  rw [View.read_apply]
  show lookOut V c t.val _ = moved V c _
  have h0 : (j 0).val < 256 := (j 0).isLt
  unfold moved
  have hn : 8 * (t.val / 8) + 7 = t.val := by omega
  congr 1
  · show t.val = 8 * ((win1_3.index t 0 * 256 + 1 * (j 0).val) / 256) + 7
    rw [(index_3 t).1]
    omega
  · funext a
    apply Fin.ext
    match a with
    | ⟨0, _⟩ => show (j 0).val = (win1_3.index t 0 * 256 + 1 * (j 0).val) % 256; rw [(index_3 t).1]; omega
    | ⟨1, _⟩ => show (j 1).val = win1_3.index t 1 * 32 + 1 * (j 1).val; rw [(index_3 t).2]; omega

theorem arrAt_3 : (dat V c).arrAt 3 cfg1.N = moved V c :=
  (dat V c).arrAt_eq_of_cover 3 (moved V c) (flushed_3 V c) fun i => by
    have h0 : (i 0 : Nat) < 16384 := (i 0).isLt
    have h1 : (i 1 : Nat) < 32 := (i 1).isLt
    have hlt : 8 * ((i 0 : Nat) / 256) + 7 < cfg1.N := lt_of_lt_of_eq (show _ < 512 by omega) N_1.symm
    refine ⟨⟨8 * ((i 0 : Nat) / 256) + 7, hlt⟩, (flush1_3 _).mpr (by dsimp only; omega), ?_⟩
    generalize hT : (⟨8 * ((i 0 : Nat) / 256) + 7, hlt⟩ : Fin cfg1.N) = T
    have hv : T.val = 8 * ((i 0 : Nat) / 256) + 7 := by rw [← hT]
    show i ∈ ((View.whole main_v9_0).slice (win1_3.rect T)).set
    rw [View.set_slice_whole, Rect.mem_set_unit]
    intro a
    match a with
    | ⟨0, _⟩ =>
      show win1_3.index T 0 * 256 ≤ (i 0 : Nat) ∧ (i 0 : Nat) < win1_3.index T 0 * 256 + 256
      rw [(index_3 T).1, hv]; omega
    | ⟨1, _⟩ =>
      show win1_3.index T 1 * 32 ≤ (i 1 : Nat) ∧ (i 1 : Nat) < win1_3.index T 1 * 32 + 32
      rw [(index_3 T).2]; omega

theorem flushed_4 (t : Fin cfg1.N) (hf : (cfg1.win 4).flush t = true) :
    (dat V c).flushed 4 t = ((cfg1.win 4).blk t).view.read (Elt F) (sumSq V c 64) := by
  have h7 := (flush1_4 t).mp hf
  have ht := lt_512 t
  show (cfg1.win 4).cut (grid1.coords t) ((dat V c).after 4 t) = _
  rw [after_4, show (t.val + 1) / 8 = 64 by omega]
  funext j
  rw [View.read_apply]
  show sumSq V c 64 _ = sumSq V c 64 _
  congr 1
  funext a
  apply Fin.ext
  match a with
  | ⟨0, _⟩ => show (j 0).val = win1_4.index t 0 * 1 + 1 * (j 0).val; rw [(index_4 t).1]; omega
  | ⟨1, _⟩ => show (j 1).val = win1_4.index t 1 * 1 + 1 * (j 1).val; rw [(index_4 t).2]; omega

theorem arrAt_4 : (dat V c).arrAt 4 cfg1.N = sumSq V c 64 :=
  (dat V c).arrAt_eq_of_cover 4 (sumSq V c 64) (flushed_4 V c) fun i => by
    have h0 : (i 0 : Nat) < 1 := (i 0).isLt
    have h1 : (i 1 : Nat) < 1 := (i 1).isLt
    have hlt : 511 < cfg1.N := lt_of_lt_of_eq (show 511 < 512 by decide) N_1.symm
    refine ⟨⟨511, hlt⟩, (flush1_4 _).mpr rfl, ?_⟩
    generalize (⟨511, hlt⟩ : Fin cfg1.N) = T
    show i ∈ ((View.whole main_v9_1).slice (win1_4.rect T)).set
    rw [View.set_slice_whole, Rect.mem_set_unit]
    intro a
    match a with
    | ⟨0, _⟩ =>
      show win1_4.index T 0 * 1 ≤ (i 0 : Nat) ∧ (i 0 : Nat) < win1_4.index T 0 * 1 + 1
      rw [(index_4 T).1]; omega
    | ⟨1, _⟩ =>
      show win1_4.index T 1 * 1 ≤ (i 1 : Nat) ∧ (i 1 : Nat) < win1_4.index T 1 * 1 + 1
      rw [(index_4 T).2]; omega

end Lookup

end Cert.KernelIdeal

end

end
-- ==== Proof.HostReads.lean ====
/- What the host operations around the two calls leave: before the calls the flattened input and the two rows of squared
   norms, the same terms the reference names; after them the three results out of the calls' arrays. -/
module

public import proofs.«01_k».proof.Proof.Run
public import proofs.«01_k».proof.Proof.Arrays
public import proofs.«01_k».proof.Proof.Reference

@[expose] public section

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.ShloMosaic.Pipeline (afterRegion)

variable {F : FTy → Type} [FloatOps F]

section

variable (V : Valuation τ sig (Elt F))

theorem head_flat : after hostOps0 V (Proc.devRef .tc main_v0) = Cert.ReferenceIdeal.Plain.flat (F := F) (V (Proc.devRef .tc main_arg0)) := by
  unfold Cert.ReferenceIdeal.Plain.flat
  simp only [hostOps0, TRef.binary, TRef.nullary, TRef.unary, TRef.toBuf, TRef.ofBuf, cast_eq]
  after_results_simp <;> rfl

theorem head_rowSq : after hostOps0 V (Proc.devRef .tc main_v3) = Cert.ReferenceIdeal.Plain.rowSq (F := F) (V (Proc.devRef .tc main_arg0)) := by
  unfold Cert.ReferenceIdeal.Plain.rowSq Cert.ReferenceIdeal.Plain.flat
  simp only [hostOps0, TRef.binary, TRef.nullary, TRef.unary, TRef.toBuf, TRef.ofBuf, cast_eq]
  after_results_simp <;> rfl

theorem head_codeSq : after hostOps0 V (Proc.devRef .tc main_v7) = Cert.ReferenceIdeal.Plain.codeSq (F := F) (V (Proc.devRef .tc main_arg1)) := by
  unfold Cert.ReferenceIdeal.Plain.codeSq
  simp only [hostOps0, TRef.binary, TRef.nullary, TRef.unary, TRef.toBuf, TRef.ofBuf, cast_eq]
  after_results_simp <;> rfl

theorem tail_feat : after hostOps2 V (Proc.devRef .tc main_v10)
    = shapeCast S16x1024x32 (show Vec F S16384x32 .f32 from V (Proc.devRef .tc main_v9_0)) shapeCasts_S16384x32_S16x1024x32 := by
  simp only [hostOps2, TRef.binary, TRef.nullary, TRef.unary, TRef.toBuf, TRef.ofBuf, cast_eq]
  after_results_simp <;> rfl

theorem tail_index : after hostOps2 V (Proc.devRef .tc main_v11)
    = shapeCast S16x1024 (show Vec F S64x256x1 .i32 from V (Proc.devRef .tc main_v8)) shapeCasts_S64x256x1_S16x1024 := by
  simp only [hostOps2, TRef.binary, TRef.nullary, TRef.unary, TRef.toBuf, TRef.ofBuf, cast_eq]
  after_results_simp <;> rfl

theorem tail_mean : after hostOps2 V (Proc.devRef .tc main_v13)
    = Host.divf (F := F) (shapeCast S_ (show Vec F S1x1 .f32 from V (Proc.devRef .tc main_v9_1)) shapeCasts_S1x1_S_)
        (constant S_ .f32 0x49000000#32) := by
  simp only [hostOps2, TRef.binary, TRef.nullary, TRef.unary, TRef.toBuf, TRef.ofBuf, cast_eq]
  after_results_simp <;> rfl

end

variable (m : (ℓ : Loc nD τ sig) → Buf (Elt F) ℓ) (c : Dev nD)

/-- The two arguments on core `c`. -/
abbrev argX : Vec F S16x1024x32 .f32 := m ((c.tc : Thread nD τ).loc main_arg0)
abbrev argW : Vec F S8192x32 .f32 := m ((c.tc : Thread nD τ).loc main_arg1)

/-! ## What the first call reads -/

theorem search_rows : Search.rows (atSearch m) c = Cert.ReferenceIdeal.Plain.flat (argX m c) := head_flat (V0 m c)
theorem search_rowSqs : Search.rowSqs (atSearch m) c = Cert.ReferenceIdeal.Plain.rowSq (argX m c) := head_rowSq (V0 m c)
theorem search_codeSqs : Search.codeSqs (atSearch m) c = Cert.ReferenceIdeal.Plain.codeSq (argW m c) := head_codeSq (V0 m c)
theorem search_codes : Search.codes (atSearch m) c = argW m c := atSearch_of m c main_arg1 (by decide)

/-! ## What the second call reads -/

theorem lookup_indices : Lookup.indices (atLookup m) c = Search.written (atSearch m) c :=
  (Pipeline.afterRegion_arr (Search.dat (atSearch m) c) (atSearch m c) launch0.win.arr_inj 4).trans (Search.arrAt_4 (atSearch m) c)
theorem lookup_rows : Lookup.rows (atLookup m) c = Cert.ReferenceIdeal.Plain.flat (argX m c) :=
  (atLookup_of m c main_v0 (by decide)).trans (search_rows m c)
theorem lookup_codes : Lookup.codes (atLookup m) c = argW m c :=
  (atLookup_of m c main_arg1 (by decide)).trans (search_codes m c)

/-! ## The results -/

theorem final_feat : final m c main_v10
    = shapeCast S16x1024x32 (Lookup.moved (atLookup m) c) shapeCasts_S16384x32_S16x1024x32 := by
  refine (tail_feat (atTail m c)).trans ?_
  have e : atTail m c main_v9_0 = Lookup.moved (atLookup m) c :=
    (Pipeline.afterRegion_arr (Lookup.dat (atLookup m) c) (atLookup m c) launch1.win.arr_inj 3).trans (Lookup.arrAt_3 (atLookup m) c)
  rw [e]

theorem final_index : final m c main_v11
    = shapeCast S16x1024 (Search.written (atSearch m) c) shapeCasts_S64x256x1_S16x1024 := by
  refine (tail_index (atTail m c)).trans ?_
  have e : atTail m c main_v8 = Search.written (atSearch m) c :=
    (atTail_of m c main_v8 (by decide)).trans (lookup_indices m c)
  rw [e]

theorem final_mean : final m c main_v13
    = Host.divf (F := F) (shapeCast S_ (Lookup.sumSq (atLookup m) c 64) shapeCasts_S1x1_S_) (constant S_ .f32 0x49000000#32) := by
  refine (tail_mean (atTail m c)).trans ?_
  have e : atTail m c main_v9_1 = Lookup.sumSq (atLookup m) c 64 :=
    (Pipeline.afterRegion_arr (Lookup.dat (atLookup m) c) (atLookup m c) launch1.win.arr_inj 4).trans (Lookup.arrAt_4 (atLookup m) c)
  rw [e]

end Cert.KernelIdeal.Whole

end

end
-- ==== Proof.FirstBest.lean ====
/- The first greatest value of a sequence: what the search for the nearest code looks for. A block's search, the comparison
   of two stretches and a fold over the whole sequence all find it. -/
module

public import Idealize.ShloMosaic.Lib.Pointwise

@[expose] public section

namespace Cert.FirstBest

open Idealize.ShloMosaic

/-- Among the positions from `lo` up to but not including `hi`, position `i` holds the greatest value of `f`, and no
    position before it holds that value. -/
structure Best (f : ℕ → EReal) (lo hi i : ℕ) : Prop where
  ge : lo ≤ i
  lt : i < hi
  best : ∀ k, lo ≤ k → k < hi → f k < f i ∨ (f k = f i ∧ i ≤ k)

/-- There is one such position at most. -/
theorem Best.unique {f : ℕ → EReal} {lo hi i j : ℕ} (hi' : Best f lo hi i) (hj : Best f lo hi j) : i = j := by
  rcases hi'.best j hj.ge hj.lt with h | ⟨h, h1⟩
  · rcases hj.best i hi'.ge hi'.lt with h' | ⟨h', _⟩
    · exact absurd h (lt_asymm h')
    · exact absurd h' (ne_of_gt h)
  · rcases hj.best i hi'.ge hi'.lt with h' | ⟨_, h2⟩
    · exact absurd h (ne_of_gt h')
    · exact le_antisymm h1 h2

/-- Of two neighbouring stretches the later one's best counts only where it is greater. -/
theorem Best.join {f : ℕ → EReal} {lo mid hi a b : ℕ} (ha : Best f lo mid a) (hb : Best f mid hi b) :
    Best f lo hi (if f a < f b then b else a) := by
  have h1 := ha.ge; have h2 := ha.lt; have h3 := hb.ge; have h4 := hb.lt
  by_cases h : f a < f b
  · rw [if_pos h]
    refine ⟨by omega, h4, fun k hk hk' => ?_⟩
    by_cases hm : k < mid
    · rcases ha.best k hk hm with h' | ⟨h', _⟩
      · exact .inl (h'.trans h)
      · exact .inl (h'.trans_lt h)
    · exact hb.best k (by omega) hk'
  · rw [if_neg h]
    refine ⟨h1, by omega, fun k hk hk' => ?_⟩
    by_cases hm : k < mid
    · exact ha.best k hk hm
    · have hle : f b ≤ f a := not_lt.1 h
      have hk2 : f k ≤ f a := by
        rcases hb.best k (by omega) hk' with h' | ⟨h', _⟩
        · exact h'.le.trans hle
        · exact h'.le.trans hle
      rcases lt_or_eq_of_le hk2 with h' | h'
      · exact .inl h'
      · exact .inr ⟨h', by omega⟩

/-- A finite stretch has a first greatest value. -/
theorem exists_best (f : ℕ → EReal) (lo n : ℕ) (hn : 0 < n) : ∃ i, Best f lo (lo + n) i := by
  induction n with
  | zero => exact absurd hn (by decide)
  | succ n ih =>
    rcases Nat.eq_zero_or_pos n with rfl | h
    · exact ⟨lo, le_rfl, by omega, fun k hk hk' => .inr ⟨by rw [show k = lo by omega], hk⟩⟩
    · obtain ⟨a, ha⟩ := ih h
      exact ⟨_, ha.join (b := lo + n) ⟨le_rfl, by omega, fun k hk hk' => .inr ⟨by rw [show k = lo + n by omega], hk⟩⟩⟩

/-- The least of a family of words, read as signed numbers: below each of them, and one of them or the bound. -/
theorem fold_minsi {ι : Type} [DecidableEq ι] (b : BitVec 32) (g : ι → BitVec 32) (s : Finset ι) :
    (∀ x ∈ s, (s.fold IntOp.minsi b g).toInt ≤ (g x).toInt)
      ∧ (s.fold IntOp.minsi b g = b ∨ ∃ x ∈ s, s.fold IntOp.minsi b g = g x) := by
  induction s using Finset.induction_on with
  | empty => exact ⟨fun x hx => absurd hx (Finset.notMem_empty x), .inl rfl⟩
  | insert a s ha ih =>
    rw [Finset.fold_insert ha]
    obtain ⟨h1, h2⟩ := ih
    generalize s.fold IntOp.minsi b g = v at h1 h2
    have hm : IntOp.minsi (g a) v = if (g a).toInt < v.toInt then g a else v := by
      unfold IntOp.minsi
      simp only [BitVec.slt, decide_eq_true_eq]
    rw [hm]
    split
    · rename_i h
      refine ⟨fun x hx => ?_, .inr ⟨a, Finset.mem_insert_self .., rfl⟩⟩
      rcases Finset.mem_insert.1 hx with rfl | hx
      · exact le_rfl
      · exact h.le.trans (h1 x hx)
    · rename_i h
      refine ⟨fun x hx => ?_, h2.imp id fun ⟨x, hx, e⟩ => ⟨x, Finset.mem_insert_of_mem hx, e⟩⟩
      rcases Finset.mem_insert.1 hx with rfl | hx
      · exact not_lt.1 h
      · exact h1 x hx

/-- A small number read back from its word. -/
theorem toInt_small (k : ℕ) (h : k < 2 ^ 31) : (BitVec.ofNat 32 k).toInt = k := by
  have h' : k < 2147483648 := h
  have e : (BitVec.ofNat 32 k).toNat = k := by rw [BitVec.toNat_ofNat]; exact Nat.mod_eq_of_lt (by omega)
  rw [BitVec.toInt_eq_toNat_cond, e, if_pos (by omega)]

/-- A block's greatest value, and the least position at which the block holds it: the first greatest value of the
    stretch of `f` that the block is. -/
theorem block_best (f : ℕ → EReal) (lo : ℕ) (g : Fin 1024 → EReal) (hg : ∀ x : Fin 1024, g x = f (lo + x.val)) :
    ∃ i, Best f lo (lo + 1024) i ∧ Finset.fold max ⊥ g Finset.univ = f i
      ∧ Finset.fold IntOp.minsi 2147483647#32
          (fun x : Fin 1024 => if g x = Finset.fold max ⊥ g Finset.univ then BitVec.ofNat 32 x.val else 8192#32) Finset.univ
        = BitVec.ofNat 32 (i - lo) := by
  obtain ⟨i, hb⟩ := exists_best f lo 1024 (by decide)
  have hge := hb.ge
  have hlt := hb.lt
  have hle : ∀ x : Fin 1024, g x ≤ f i := fun x => by
    rw [hg]
    rcases hb.best (lo + x.val) (by omega) (by omega) with h | ⟨h, _⟩
    · exact h.le
    · exact h.le
  have hi : g ⟨i - lo, by omega⟩ = f i := by
    rw [hg]; congr 1; dsimp only; omega
  have hmax : Finset.fold max ⊥ g Finset.univ = f i := by
    apply le_antisymm
    · exact (Finset.fold_max_le _).2 ⟨bot_le, fun x _ => hle x⟩
    · rw [← hi]
      exact (Finset.le_fold_max _).2 (.inr ⟨_, Finset.mem_univ _, le_rfl⟩)
  refine ⟨i, hb, hmax, ?_⟩
  rw [hmax]
  obtain ⟨h1, h2⟩ := fold_minsi 2147483647#32
    (fun x : Fin 1024 => if g x = f i then BitVec.ofNat 32 x.val else 8192#32) Finset.univ
  have h3 := h1 ⟨i - lo, by omega⟩ (Finset.mem_univ _)
  rw [if_pos hi, toInt_small _ (by dsimp only; omega)] at h3
  generalize Finset.fold IntOp.minsi 2147483647#32
    (fun x : Fin 1024 => if g x = f i then BitVec.ofNat 32 x.val else 8192#32) Finset.univ = v at h2 h3 ⊢
  clear h1
  dsimp only at h3
  rcases h2 with h2 | ⟨x, -, h2⟩
  · rw [h2] at h3
    have : (2147483647#32 : BitVec 32).toInt = 2147483647 := by decide
    omega
  · rw [h2] at h3 ⊢
    by_cases hx : g x = f i
    · rw [if_pos hx] at h3 ⊢
      have hlx := x.isLt
      rw [toInt_small _ (by omega)] at h3
      have : i ≤ lo + x.val := by
        rcases hb.best (lo + x.val) (by omega) (by omega) with h | ⟨_, h⟩
        · exact absurd (hg x ▸ hx) (ne_of_lt h)
        · exact h
      congr 1; omega
    · rw [if_neg hx] at h3
      have : (8192#32 : BitVec 32).toInt = 8192 := by decide
      omega

end Cert.FirstBest

end
-- ==== Proof.SearchValue.lean ====
/- What the first call computes over the extended reals: the index it writes for a row is the first position of the row's
   greatest score. -/
module

public import proofs.«01_k».proof.Proof.SearchReads
public import proofs.«01_k».proof.Proof.FirstBest

@[expose] public section

set_option maxRecDepth 16384

noncomputable section

namespace Cert.KernelIdeal.Search

open Cert.KernelIdeal Cert.KernelIdeal.Gen Cert.FirstBest Idealize.ShloMosaic Idealize.ShloMosaic.TcCoe

/-! ## The payloads at an index -/

section

variable (x0 : Vec Ideal S256x32 .f32) (x1 : Vec Ideal S1024x32 .f32) (x2 : Vec Ideal S256x1 .f32) (x3 : Vec Ideal S1x1024 .f32)

/-- The block's scores. -/
def scores (r : Fin 256) (j : Fin 1024) : EReal :=
  0 - (x2 (ix2 r 0) - Ideal.ofBits FTy.f32 1073741824#32 * ∑ l : Fin 32, x0 (ix2 r l) * x1 (ix2 j l) + x3 (ix2 0 j))

theorem pay7_apply (r : Fin 256) (j : Fin 1024) : k0_pay7 x0 x1 x2 x3 (ix2 r j) = scores x0 x1 x2 x3 r j := by
  unfold scores
  pointwise [k0_pay7]

theorem neg_infinity : Ideal.ofBits FTy.f32 4286578688#32 = ⊥ := by
  simp [Ideal.ofBits, Ideal.ieee]

theorem pay8_apply (r : Fin 256) :
    k0_pay8 x0 x1 x2 x3 (ix2 r 0) = Finset.fold max ⊥ (fun j => scores x0 x1 x2 x3 r j) Finset.univ := by
  simp only [← pay7_apply, ← neg_infinity]
  pointwise [k0_pay8]

theorem pay10_apply (r : Fin 256) : k0_pay10 x0 x1 x2 x3 (ix2 r 0) = k0_pay8 x0 x1 x2 x3 (ix2 r 0) := by
  pointwise [k0_pay10]

theorem pay9_apply (i : grid0.Coords) (r : Fin 256) :
    k0_pay9 i x0 x1 x2 x3 (ix2 r 0)
      = IntOp.addi (Finset.fold IntOp.minsi 2147483647#32
          (fun j : Fin 1024 => if scores x0 x1 x2 x3 r j = Finset.fold max ⊥ (fun j => scores x0 x1 x2 x3 r j) Finset.univ
            then BitVec.ofNat 32 j.val else 8192#32) Finset.univ)
        (Scalar.muli (BitVec.ofNat 32 (i 1).val) 1024#32) := by
  rw [← pay8_apply]
  simp only [← pay7_apply]
  pointwise [k0_pay9]

theorem pay11_apply (i : grid0.Coords) (r : Fin 256) : k0_pay11 i x0 x1 x2 x3 (ix2 r 0) = k0_pay9 i x0 x1 x2 x3 (ix2 r 0) := by
  pointwise [k0_pay11]

end

theorem pay2_apply (a b d : Vec Ideal S256x1 .f32) (r : Fin 256) :
    k0_pay2 a b d (ix2 r 0) = if b (ix2 r 0) < a (ix2 r 0) then a (ix2 r 0) else d (ix2 r 0) := by
  pointwise [k0_pay2, k0_pay1]

theorem pay3_apply (a b : Vec Ideal S256x1 .f32) (i k : Vec Ideal S256x1 .i32) (r : Fin 256) :
    k0_pay3 a i b k (ix2 r 0) = if b (ix2 r 0) < a (ix2 r 0) then i (ix2 r 0) else k (ix2 r 0) := by
  pointwise [k0_pay3, k0_pay1]

theorem pay4_apply (a : Vec Ideal S256x1 .f32) (r : Fin 256) : k0_pay4 a (ix2 r 0) = a (ix2 r 0) := by
  pointwise [k0_pay4]

theorem pay5_apply (a : Vec Ideal S256x1 .i32) (r : Fin 256) : k0_pay5 (F := Ideal) a (ix2 r 0) = a (ix2 r 0) := by
  pointwise [k0_pay5]

theorem pay6_apply (a b : Vec Ideal S256x1 .f32) (i k : Vec Ideal S256x1 .i32) (r : Fin 256) :
    k0_pay6 a b i k (ix3 0 r 0) = if b (ix2 r 0) < a (ix2 r 0) then i (ix2 r 0) else k (ix2 r 0) := by
  pointwise [k0_pay6]

/-- A position within block `k`, counted from the first block. -/
theorem word_offset (a k : ℕ) :
    IntOp.addi (BitVec.ofNat 32 a) (Scalar.muli (BitVec.ofNat 32 k) 1024#32) = BitVec.ofNat 32 (a + k * 1024) := by
  rw [BitVec.ofNat_add, BitVec.ofNat_mul]
  rfl

/-! ## A point's block -/

section

variable (V : Dev nD → Valuation τ sig (Elt Ideal)) (c : Dev nD)

/-- The scores of a row against every code, of the arrays the call finds. -/
def score (r : Fin 16384) (k : Fin 8192) : EReal :=
  0 - (rowSqs V c (ix2 r 0) - Ideal.ofBits FTy.f32 1073741824#32 * ∑ l : Fin 32, rows V c (ix2 r l) * codes V c (ix2 k l)
    + codeSqs V c (ix2 0 k))

/-- The scores of a row by position. -/
def row (r : Fin 16384) : ℕ → EReal := fun k => if h : k < 8192 then score V c r ⟨k, h⟩ else ⊥

theorem scores_eq (t : Fin cfg0.N) (r : Fin 256) (j : Fin 1024) :
    scores (rowBlk V c t) (codeBlk V c t) (rowSq V c t) (codeSq V c t) r j = row V c (rowAt t r) (t.val % 8 * 1024 + j.val) := by
  have hj : t.val % 8 * 1024 + j.val < 8192 := (codeAt t j).isLt
  rw [row, dif_pos hj]
  unfold scores score
  rw [rowSq_apply, codeSq_apply]
  simp only [rowBlk_apply, codeBlk_apply]
  rfl

/-- The best of a point's block and its index. -/
theorem block (t : Fin cfg0.N) (r : Fin 256) :
    ∃ i, Best (row V c (rowAt t r)) (t.val % 8 * 1024) (t.val % 8 * 1024 + 1024) i
      ∧ k0_pay8 (rowBlk V c t) (codeBlk V c t) (rowSq V c t) (codeSq V c t) (ix2 r 0) = row V c (rowAt t r) i
      ∧ k0_pay9 (grid0.coords t) (rowBlk V c t) (codeBlk V c t) (rowSq V c t) (codeSq V c t) (ix2 r 0) = BitVec.ofNat 32 i := by
  obtain ⟨i, hb, h1, h2⟩ := block_best (row V c (rowAt t r)) (t.val % 8 * 1024)
    (fun j => scores (rowBlk V c t) (codeBlk V c t) (rowSq V c t) (codeSq V c t) r j) (fun j => scores_eq V c t r j)
  refine ⟨i, hb, (pay8_apply ..).trans h1, (pay9_apply ..).trans ?_⟩
  have hge := hb.ge
  rw [h2, coord_1, word_offset]
  exact congrArg (BitVec.ofNat 32) (by omega)

/-! ## The running best -/

theorem opened_1 (t : Fin cfg0.N) (r : Fin 256) :
    (opened V c t).1 (ix2 r 0) = k0_pay8 (rowBlk V c t) (codeBlk V c t) (rowSq V c t) (codeSq V c t) (ix2 r 0) := by
  unfold opened
  dsimp only
  rw [pay10_apply]

theorem opened_2 (t : Fin cfg0.N) (r : Fin 256) :
    (opened V c t).2 (ix2 r 0)
      = k0_pay9 (grid0.coords t) (rowBlk V c t) (codeBlk V c t) (rowSq V c t) (codeSq V c t) (ix2 r 0) := by
  unfold opened
  dsimp only
  rw [pay11_apply]

theorem continued_1 (t : Fin cfg0.N) (s : Vec Ideal S256x1 .f32 × Vec Ideal S256x1 .i32) (r : Fin 256) :
    (continued V c t s).1 (ix2 r 0)
      = if s.1 (ix2 r 0) < k0_pay8 (rowBlk V c t) (codeBlk V c t) (rowSq V c t) (codeSq V c t) (ix2 r 0)
        then k0_pay8 (rowBlk V c t) (codeBlk V c t) (rowSq V c t) (codeSq V c t) (ix2 r 0) else s.1 (ix2 r 0) := by
  unfold continued
  dsimp only [best]
  rw [pay2_apply]

theorem continued_2 (t : Fin cfg0.N) (s : Vec Ideal S256x1 .f32 × Vec Ideal S256x1 .i32) (r : Fin 256) :
    (continued V c t s).2 (ix2 r 0)
      = if s.1 (ix2 r 0) < k0_pay8 (rowBlk V c t) (codeBlk V c t) (rowSq V c t) (codeSq V c t) (ix2 r 0)
        then k0_pay9 (grid0.coords t) (rowBlk V c t) (codeBlk V c t) (rowSq V c t) (codeSq V c t) (ix2 r 0) else s.2 (ix2 r 0) := by
  unfold continued
  dsimp only [bestIx]
  rw [pay3_apply]

/-- After point `n` the running best is the best of its half's codes so far. -/
theorem run_best (n : ℕ) (hn : n < 512) (r : Fin 256) :
    ∃ i, Best (row V c (rowAt (pt n) r)) (n % 8 / 4 * 4096) ((n % 8 + 1) * 1024) i
      ∧ (run V c n).1 (ix2 r 0) = row V c (rowAt (pt n) r) i ∧ (run V c n).2 (ix2 r 0) = BitVec.ofNat 32 i := by
  induction n with
  | zero =>
    obtain ⟨i, hb, h1, h2⟩ := block V c (pt 0) r
    have e : (pt 0).val = 0 := rfl
    rw [e] at hb
    rw [run_opens V c 0 rfl, opened_1, opened_2]
    exact ⟨i, hb, h1, h2⟩
  | succ n ih =>
    obtain ⟨i, hb, h1, h2⟩ := block V c (pt (n + 1)) r
    have hp : (pt (n + 1)).val = n + 1 := Nat.mod_eq_of_lt hn
    have hp' : (pt n).val = n := Nat.mod_eq_of_lt (by omega)
    rw [hp] at hb
    by_cases h4 : (n + 1) % 4 = 0
    · rw [run_opens V c (n + 1) h4, opened_1, opened_2]
      refine ⟨i, ?_, h1, h2⟩
      rw [show (n + 1) % 8 / 4 * 4096 = (n + 1) % 8 * 1024 by omega, show ((n + 1) % 8 + 1) * 1024 = (n + 1) % 8 * 1024 + 1024 by omega]
      exact hb
    · obtain ⟨k, hk, g1, g2⟩ := ih (by omega)
      have hrow : rowAt (pt n) r = rowAt (pt (n + 1)) r := Fin.ext (by unfold rowAt; dsimp only; rw [hp, hp']; omega)
      rw [hrow] at hk g1
      rw [show n % 8 / 4 * 4096 = (n + 1) % 8 / 4 * 4096 by omega, show (n % 8 + 1) * 1024 = (n + 1) % 8 * 1024 by omega] at hk
      rw [show (n + 1) % 8 * 1024 + 1024 = ((n + 1) % 8 + 1) * 1024 by omega] at hb
      rw [run_continues V c (n + 1) h4, continued_1, continued_2, Nat.add_sub_cancel, h1, h2, g1, g2]
      refine ⟨_, hk.join hb, ?_, ?_⟩
      · split <;> rfl
      · split <;> rfl

/-- The index written at the end of a block of rows: the first position of the row's greatest score. -/
theorem emitted_best (n : ℕ) (hn : n < 512) (h7 : n % 8 = 7) (r : Fin 256) :
    ∃ i, Best (row V c (rowAt (pt n) r)) 0 8192 i ∧ emitted V c n (ix3 0 r 0) = BitVec.ofNat 32 i := by
  obtain ⟨b, hb, b1, b2⟩ := run_best V c n hn r
  obtain ⟨a, ha, a1, a2⟩ := run_best V c (n - 4) (by omega) r
  have hp : (pt n).val = n := Nat.mod_eq_of_lt hn
  have hp' : (pt (n - 4)).val = n - 4 := Nat.mod_eq_of_lt (by omega)
  have hrow : rowAt (pt (n - 4)) r = rowAt (pt n) r := Fin.ext (by unfold rowAt; dsimp only; rw [hp, hp']; omega)
  rw [hrow] at ha a1
  rw [show n % 8 / 4 * 4096 = 4096 by omega, show (n % 8 + 1) * 1024 = 8192 by omega] at hb
  rw [show (n - 4) % 8 / 4 * 4096 = 0 by omega, show ((n - 4) % 8 + 1) * 1024 = 4096 by omega] at ha
  refine ⟨_, ha.join hb, ?_⟩
  unfold emitted
  refine (pay6_apply ..).trans ?_
  rw [pay4_apply, pay5_apply, a1, a2, b1, b2]
  split <;> rfl

end

end Cert.KernelIdeal.Search

end

end
-- ==== Proof.LookupValue.lean ====
/- What the second call computes over the extended reals, where every index it reads lies within the codebook: the code at
   the index, the row moved by its difference to that code, and the sum of the squared differences. -/
module

public import proofs.«01_k».proof.Proof.LookupReads

@[expose] public section

set_option maxRecDepth 16384

noncomputable section

namespace Cert.KernelIdeal.Lookup

open Cert.KernelIdeal Cert.KernelIdeal.Gen Idealize.ShloMosaic Idealize.ShloMosaic.TcCoe

/-! ## One row of the mask -/

/-- The mask's element for code `x` of block `k`, at index `i`: one where the code is the indexed one. -/
def mask (i k x : ℕ) : EReal :=
  FloatOps.sitofp (F := Ideal) FTy.f32 (BitVec.setWidth 32 (IntOp.cmpi .eq (BitVec.ofNat 32 x)
    (IntOp.subi (BitVec.ofNat 32 i) (Scalar.muli (BitVec.ofNat 32 k) 1024#32))))

theorem word_eq (i k x : ℕ) (hi : i < 8192) (hk : k < 8) (hx : x < 1024) :
    BitVec.ofNat 32 x = BitVec.ofNat 32 i - BitVec.ofNat 32 k * BitVec.ofNat 32 1024 ↔ k * 1024 + x = i := by
  have hs : ∀ a b d : BitVec 32, d = a - b ↔ a = d + b := fun a b d =>
    ⟨fun e => by rw [e, BitVec.sub_add_cancel], fun e => by rw [e, BitVec.add_sub_cancel]⟩
  rw [hs, ← BitVec.ofNat_mul, ← BitVec.ofNat_add]
  constructor
  · intro h
    have h' := congrArg BitVec.toNat h
    rw [BitVec.toNat_ofNat, BitVec.toNat_ofNat, Nat.mod_eq_of_lt (by omega), Nat.mod_eq_of_lt (by omega)] at h'
    omega
  · intro h
    exact congrArg _ (by omega)

theorem mask_eq (i k x : ℕ) (hi : i < 8192) (hk : k < 8) (hx : x < 1024) : mask i k x = if k * 1024 + x = i then 1 else 0 := by
  have h : IntOp.cmpi .eq (BitVec.ofNat 32 x) (IntOp.subi (BitVec.ofNat 32 i) (Scalar.muli (BitVec.ofNat 32 k) 1024#32))
      = BitVec.ofBool (decide (k * 1024 + x = i)) := by
    show BitVec.ofBool (BitVec.ofNat 32 x == (BitVec.ofNat 32 i - BitVec.ofNat 32 k * BitVec.ofNat 32 1024)) = _
    refine congrArg BitVec.ofBool (Bool.eq_iff_iff.2 ?_)
    rw [beq_iff_eq, decide_eq_true_eq]
    exact word_eq i k x hi hk hx
  unfold mask
  rw [h]
  by_cases hc : k * 1024 + x = i
  · rw [if_pos hc, decide_eq_true hc]
    show (((BitVec.setWidth 32 (BitVec.ofBool true)).toInt : ℝ) : EReal) = 1
    rw [show (BitVec.setWidth 32 (BitVec.ofBool true)).toInt = 1 by decide, Int.cast_one, EReal.coe_one]
  · rw [if_neg hc, decide_eq_false hc]
    show (((BitVec.setWidth 32 (BitVec.ofBool false)).toInt : ℝ) : EReal) = 0
    rw [show (BitVec.setWidth 32 (BitVec.ofBool false)).toInt = 0 by decide, Int.cast_zero, EReal.coe_zero]

/-- The masked sum over a block of codes: the indexed code's element when the block holds it. -/
theorem sum_mask (i k : ℕ) (hi : i < 8192) (hk : k < 8) (w : Fin 8192 → EReal) (v : Fin 1024 → EReal)
    (hv : ∀ x : Fin 1024, v x = w ⟨k * 1024 + x.val, by have := x.isLt; omega⟩) :
    ∑ x : Fin 1024, mask i k x.val * v x = if k * 1024 ≤ i ∧ i < (k + 1) * 1024 then w ⟨i, hi⟩ else 0 := by
  by_cases hc : k * 1024 ≤ i ∧ i < (k + 1) * 1024
  · rw [if_pos hc, Finset.sum_eq_single (⟨i - k * 1024, by omega⟩ : Fin 1024)]
    · rw [mask_eq i k _ hi hk (by dsimp only; omega), if_pos (by dsimp only; omega), one_mul, hv]
      exact congrArg w (Fin.ext (by dsimp only; omega))
    · intro x _ hx
      rw [mask_eq i k _ hi hk x.isLt, if_neg (fun h => hx (Fin.ext (by dsimp only; omega))), zero_mul]
    · intro h
      exact absurd (Finset.mem_univ _) h
  · rw [if_neg hc]
    refine Finset.sum_eq_zero fun x _ => ?_
    have := x.isLt
    rw [mask_eq i k _ hi hk x.isLt, if_neg (by omega), zero_mul]

/-- What the blocks before and the block itself hold, together. -/
theorem merge (a k : ℕ) (v : EReal) :
    (if a < k * 1024 then v else 0) + (if k * 1024 ≤ a ∧ a < (k + 1) * 1024 then v else 0) = if a < (k + 1) * 1024 then v else 0 := by
  by_cases h1 : a < k * 1024
  · have h2 : ¬(k * 1024 ≤ a ∧ a < (k + 1) * 1024) := by omega
    have h3 : a < (k + 1) * 1024 := by omega
    rw [if_pos h1, if_neg h2, if_pos h3, add_zero]
  · rw [if_neg h1, zero_add]
    have h2 : (k * 1024 ≤ a ∧ a < (k + 1) * 1024) = (a < (k + 1) * 1024) := by
      apply propext
      omega
    simp only [h2]

/-! ## The payloads at an index -/

theorem pay1_apply (r : Fin 256) (l : Fin 32) : k1_pay1 (F := Ideal) (ix2 r l) = 0 := by
  pointwise [k1_pay1]

theorem pay2_apply (g : grid1.Coords) (x0 : Vec Ideal S1x256x1 .i32) (x1 : Vec Ideal S1024x32 .f32) (s : Vec Ideal S256x32 .f32)
    (r : Fin 256) (l : Fin 32) (i : ℕ) (hi : x0 (ix3 0 r 0) = BitVec.ofNat 32 i) :
    k1_pay2 g x0 x1 s (ix2 r l) = s (ix2 r l) + ∑ x : Fin 1024, mask i (g 1).val x.val * x1 (ix2 x l) := by
  unfold mask
  rw [← hi]
  pointwise [k1_pay2]

theorem pay5_apply (x0 x1 : Vec Ideal S256x32 .f32) (r : Fin 256) (l : Fin 32) :
    k1_pay5 x0 x1 (ix2 r l) = x1 (ix2 r l) - x0 (ix2 r l) + x0 (ix2 r l) := by
  pointwise [k1_pay5, k1_pay3, k1_pay4]

theorem pay6_apply : k1_pay6 (F := Ideal) (ix2 0 0) = 0 := by
  pointwise [k1_pay6]

theorem pay7_apply (x0 x1 : Vec Ideal S256x32 .f32) (s : Vec Ideal S1x1 .f32) :
    k1_pay7 x0 x1 s (ix2 0 0)
      = s (ix2 0 0) + ∑ r : Fin 256, ∑ l : Fin 32, (x0 (ix2 r l) - x1 (ix2 r l)) * (x0 (ix2 r l) - x1 (ix2 r l)) := by
  pointwise [k1_pay7, k1_pay3, k1_pay4]

/-! ## The running lookup and the sum -/

section

variable (V : Dev nD → Valuation τ sig (Elt Ideal)) (c : Dev nD) (idx : Fin 16384 → Fin 8192)

/-- The index array holds `idx`. -/
def Holds : Prop := ∀ (t : Fin cfg1.N) (r : Fin 256), indices V c (ix3 (rowsOf t) r 0) = BitVec.ofNat 32 (idx (rowAt t r)).val

variable {idx} (h : Holds V c idx)

include h

/-- One point's step of the lookup. -/
theorem step (t : Fin cfg1.N) (s : Vec Ideal S256x32 .f32) (r : Fin 256) (l : Fin 32) :
    k1_pay2 (grid1.coords t) (idxBlk V c t) (codeBlk V c t) s (ix2 r l)
      = s (ix2 r l) + if t.val % 8 * 1024 ≤ (idx (rowAt t r)).val ∧ (idx (rowAt t r)).val < (t.val % 8 + 1) * 1024
          then codes V c (ix2 (idx (rowAt t r)) l) else 0 := by
  rw [pay2_apply _ _ _ _ r l (idx (rowAt t r)).val ((idxBlk_apply V c t r).trans (h t r)), coord_1]
  rw [sum_mask _ _ (idx (rowAt t r)).isLt (Nat.mod_lt _ (by decide)) (fun k => codes V c (ix2 k l)) _
    (fun x => codeBlk_apply V c t x l)]

/-- After point `n` the lookup holds the code at the index, once its block has been passed. -/
theorem look_eq (n : ℕ) (hn : n < 512) (r : Fin 256) (l : Fin 32) :
    look V c n (ix2 r l) = if (idx (rowAt (pt n) r)).val < (n % 8 + 1) * 1024 then codes V c (ix2 (idx (rowAt (pt n) r)) l) else 0 := by
  induction n with
  | zero =>
    have e : (pt 0).val = 0 := rfl
    rw [look_reset V c 0 rfl, step V c h, pay1_apply, zero_add, e]
    simp only [Nat.zero_mod, Nat.zero_mul, Nat.zero_le, true_and]
  | succ n ih =>
    have hp : (pt (n + 1)).val = n + 1 := Nat.mod_eq_of_lt hn
    have hp' : (pt n).val = n := Nat.mod_eq_of_lt (by omega)
    by_cases h8 : (n + 1) % 8 = 0
    · rw [look_reset V c (n + 1) h8, step V c h, pay1_apply, zero_add, hp, h8]
      simp only [Nat.zero_mul, Nat.zero_le, true_and]
    · have hrow : rowAt (pt n) r = rowAt (pt (n + 1)) r := Fin.ext (by unfold rowAt; dsimp only; rw [hp, hp']; omega)
      rw [look_step V c (n + 1) h8, step V c h, Nat.add_sub_cancel, ih (by omega), hrow, hp]
      generalize idx (rowAt (pt (n + 1)) r) = i
      have hm : (n + 1) % 8 = n % 8 + 1 := by omega
      rw [hm]
      exact merge i.val (n % 8 + 1) _

/-- At the last point of a block of rows the lookup holds the code at the index. -/
theorem look_last (n : ℕ) (hn : n < 512) (h7 : n % 8 = 7) (r : Fin 256) (l : Fin 32) :
    look V c n (ix2 r l) = codes V c (ix2 (idx (rowAt (pt n) r)) l) := by
  have := (idx (rowAt (pt n) r)).isLt
  rw [look_eq V c h n hn, if_pos (by omega)]

/-- What is written out there: the row moved by its difference to the code. -/
theorem lookOut_last (n : ℕ) (hn : n < 512) (h7 : n % 8 = 7) (r : Fin 256) (l : Fin 32) :
    lookOut V c n (ix2 r l) = codes V c (ix2 (idx (rowAt (pt n) r)) l) - rows V c (ix2 (rowAt (pt n) r) l) + rows V c (ix2 (rowAt (pt n) r) l) := by
  rw [lookOut, if_pos h7, pay5_apply, look_last V c h n hn h7, rowBlk_apply]

omit h in
variable (idx) in
/-- The squared difference of row `n` to its code, summed over the row. -/
def rowDiff (n : ℕ) : EReal := if hn : n < 16384 then
  ∑ l : Fin 32, (rows V c (ix2 ⟨n, hn⟩ l) - codes V c (ix2 (idx ⟨n, hn⟩) l)) * (rows V c (ix2 ⟨n, hn⟩ l) - codes V c (ix2 (idx ⟨n, hn⟩) l)) else 0

/-- The sum after the first `k` blocks of rows. -/
theorem sumSq_eq (k : ℕ) (hk : k ≤ 64) : sumSq V c k (ix2 0 0) = ∑ n ∈ Finset.range (k * 256), rowDiff V c idx n := by
  induction k with
  | zero =>
    rw [Nat.zero_mul, Finset.sum_range_zero]
    exact pay6_apply
  | succ k ih =>
    have hp : (pt (8 * k + 7)).val = 8 * k + 7 := Nat.mod_eq_of_lt (by omega)
    rw [sumSq, pay7_apply, ih (by omega), show (k + 1) * 256 = k * 256 + 256 by omega, Finset.sum_range_add]
    congr 1
    rw [← Fin.sum_univ_eq_sum_range (fun x => rowDiff V c idx (k * 256 + x)) 256]
    refine Finset.sum_congr rfl fun r _ => ?_
    have hr : k * 256 + r.val < 16384 := by have := r.isLt; omega
    have hrow : rowAt (pt (8 * k + 7)) r = ⟨k * 256 + r.val, hr⟩ := Fin.ext (by unfold rowAt; dsimp only; rw [hp]; omega)
    rw [rowDiff, dif_pos hr]
    refine Finset.sum_congr rfl fun l _ => ?_
    rw [look_last V c h _ (by omega) (by omega), rowBlk_apply, hrow]

end

end Cert.KernelIdeal.Lookup

end

end
-- ==== Proof.RefPick.lean ====
/- What the reference's search returns in a row: the first position of the row's greatest score. -/
module

public import proofs.«01_k».proof.Proof.Reference
public import proofs.«01_k».proof.Proof.FirstBest

@[expose] public section

noncomputable section

namespace Cert.ReferenceIdeal.Plain

open Cert.ReferenceIdeal Cert.ReferenceIdeal.Gen Cert.FirstBest Idealize.ShloMosaic

/-- The bits of minus infinity. -/
theorem neg_infinity : Ideal.ofBits FTy.f32 4286578688#32 = ⊥ := by
  simp [Ideal.ofBits, Ideal.ieee]

/-- One step of the search: the pair held stays when its value is greater, or equal at a lesser position. -/
theorem reducer_small (a b : EReal) (i j : ℕ) (hi : i < 2 ^ 31) (hj : j < 2 ^ 31) :
    reducer_argmax_f32_i32 (F := Ideal) (a, BitVec.ofNat 32 i) (b, BitVec.ofNat 32 j)
      = if b < a ∨ (a = b ∧ i < j) then (a, BitVec.ofNat 32 i) else (b, BitVec.ofNat 32 j) := by
  unfold reducer_argmax_f32_i32
  pointwise
  have hs : IntOp.cmpi .slt (BitVec.ofNat 32 i) (BitVec.ofNat 32 j) = BitVec.ofBool (decide (i < j)) := by
    show BitVec.ofBool (BitVec.slt _ _) = _
    rw [BitVec.slt, toInt_small i hi, toInt_small j hj]
    simp
  rw [hs]
  by_cases h1 : b < a <;> by_cases h2 : a = b <;> by_cases h3 : i < j <;>
    simp [h1, h2, h3, IntOp.ori, IntOp.andi, Scalar.select]

/-- Where the search stands: the value held and its position, against the positions seen so far. -/
structure Seen (f : ℕ → EReal) (seen : List ℕ) (v : EReal) (p : ℕ) : Prop where
  lt : p < 8192
  le : v ≤ f p
  best : ∀ k ∈ seen, f k < v ∨ (f k = v ∧ p ≤ k)

/-- The search over a list of positions, whatever their order. -/
theorem foldl_seen (f : ℕ → EReal) (ks : List ℕ) : ∀ (seen : List ℕ) (v : EReal) (p : ℕ), Seen f seen v p →
    (∀ k ∈ ks, k < 8192) →
    ∃ v' p', (ks.map fun k => (f k, BitVec.ofNat 32 k)).foldl (reducer_argmax_f32_i32 (F := Ideal)) (v, BitVec.ofNat 32 p)
        = (v', BitVec.ofNat 32 p') ∧ Seen f (seen ++ ks) v' p' := by
  induction ks with
  | nil => intro seen v p h _; exact ⟨v, p, rfl, by rwa [List.append_nil]⟩
  | cons j ks ih =>
    intro seen v p h hk
    have hj : j < 8192 := hk j List.mem_cons_self
    have hp := h.lt
    rw [List.map_cons, List.foldl_cons, reducer_small _ _ _ _ (by omega) (by omega)]
    have step : ∀ (v'' : EReal) (p'' : ℕ), Seen f (seen ++ [j]) v'' p'' →
        ∃ v' p', (ks.map fun k => (f k, BitVec.ofNat 32 k)).foldl (reducer_argmax_f32_i32 (F := Ideal)) (v'', BitVec.ofNat 32 p'')
          = (v', BitVec.ofNat 32 p') ∧ Seen f (seen ++ j :: ks) v' p' := fun v'' p'' h'' => by
      obtain ⟨v', p', e, s⟩ := ih (seen ++ [j]) v'' p'' h'' fun k hk' => hk k (List.mem_cons_of_mem _ hk')
      exact ⟨v', p', e, by rwa [List.append_assoc] at s⟩
    by_cases hc : f j < v ∨ (v = f j ∧ p < j)
    · rw [if_pos hc]
      refine step _ _ ⟨hp, h.le, fun k hk' => ?_⟩
      rcases List.mem_append.1 hk' with hk' | hk'
      · exact h.best k hk'
      · obtain rfl := List.mem_singleton.1 hk'
        exact hc.imp id fun ⟨e, l⟩ => ⟨e.symm, l.le⟩
    · rw [if_neg hc]
      push Not at hc
      refine step _ _ ⟨hj, le_rfl, fun k hk' => ?_⟩
      rcases List.mem_append.1 hk' with hk' | hk'
      · rcases h.best k hk' with hb | ⟨hb, hl⟩
        · exact .inl (hb.trans_le hc.1)
        · rcases lt_or_eq_of_le hc.1 with hv | hv
          · exact .inl (hb ▸ hv)
          · exact .inr ⟨hb.trans hv, (hc.2 hv).trans hl⟩
      · obtain rfl := List.mem_singleton.1 hk'
        exact .inr ⟨rfl, le_rfl⟩

/-- A row of scores, by position. -/
def row (s : Vec Ideal S16384x8192 .f32) (r : Fin 16384) : ℕ → EReal := fun k =>
  if h : k < 8192 then s (ix2 r ⟨k, h⟩) else ⊥

/-- The pairs the search meets in a row. -/
theorem fiber_row (s : Vec Ideal S16384x8192 .f32) (r : Fin 16384) :
    ∃ ks : List ℕ, Host.argReduceFiber s (iotaInDim S16384x8192 32 1) reducesTo_S16384x8192_S16384_d1 (ix1 r)
        = ks.map (fun k => (row s r k, BitVec.ofNat 32 k))
      ∧ (∀ k ∈ ks, k < 8192) ∧ ∀ k < 8192, k ∈ ks := by
  have hd := fun i => Shape.ReducesTo.fiber_r2_a1 (n0 := 16384) (n1 := 8192) reducesTo_S16384x8192_S16384_d1 (ix1 r) i
  unfold Host.argReduceFiber
  generalize hL : ((List.finRange S16384x8192.numel).filter fun n =>
    reducesTo_S16384x8192_S16384_d1.drop (S16384x8192.rowMajor.symm n) = ix1 r) = L
  have hm : ∀ n, n ∈ L ↔ reducesTo_S16384x8192_S16384_d1.drop (S16384x8192.rowMajor.symm n) = ix1 r := fun n => by
    rw [← hL, List.mem_filter]
    simp
  refine ⟨L.map fun n => (S16384x8192.rowMajor.symm n 1).val, ?_, ?_, ?_⟩
  · rw [List.map_map]
    refine List.map_congr_left fun n hn => ?_
    obtain ⟨k, hk⟩ := (hd _).1 ((hm n).1 hn)
    show (s (S16384x8192.rowMajor.symm n), BitVec.ofNat 32 (S16384x8192.rowMajor.symm n 1).val)
      = (row s r (S16384x8192.rowMajor.symm n 1).val, BitVec.ofNat 32 (S16384x8192.rowMajor.symm n 1).val)
    rw [← hk]
    show (s (ix2 r k), BitVec.ofNat 32 k.val) = (row s r k.val, BitVec.ofNat 32 k.val)
    rw [row, dif_pos k.isLt]
  · intro k hk
    obtain ⟨n, -, rfl⟩ := List.mem_map.1 hk
    exact (S16384x8192.rowMajor.symm n 1).isLt
  · intro k hk
    refine List.mem_map.2 ⟨S16384x8192.rowMajor (ix2 r ⟨k, hk⟩), (hm _).2 ?_, ?_⟩
    · rw [Equiv.symm_apply_apply]
      exact (hd _).2 ⟨⟨k, hk⟩, rfl⟩
    · rw [Equiv.symm_apply_apply]
      rfl

/-- The search ends with the greatest score of the row and its first position. -/
theorem search_best (s : FVec Ideal S16384x8192 .f32) (r : Fin 16384) :
    ∃ v i, Host.argReduce (F := Ideal) (φ := .f32) reducer_argmax_f32_i32 s (iotaInDim S16384x8192 32 1) (constant S_ .f32 0xFF800000#32) (constantI S_ 32 0#32)
        reducesTo_S16384x8192_S16384_d1 h_S_ (ix1 r) = (v, BitVec.ofNat 32 i) ∧ Best (row s r) 0 8192 i := by
  rw [Ideal.argReduce_eq_reduce2, Host.reduce2_eq_foldl_fiber]
  obtain ⟨ks, hks, hlt, hall⟩ := fiber_row s r
  rw [hks]
  have h0 : Seen (row s r) [] ⊥ 0 := ⟨by decide, bot_le, fun k hk => absurd hk List.not_mem_nil⟩
  obtain ⟨v, p, e, hs⟩ := foldl_seen (row s r) ks [] ⊥ 0 h0 hlt
  have hi : (constant (F := Ideal) S_ .f32 0xFF800000#32 (Shape.Idx.first h_S_), constantI S_ 32 0#32 (Shape.Idx.first h_S_))
      = ((⊥ : EReal), BitVec.ofNat 32 0) := Prod.ext neg_infinity rfl
  refine ⟨v, p, ?_, ?_⟩
  · rw [hi]
    exact e
  · have hp := hs.lt
    have hv : v = row s r p := by
      rcases hs.best p (hall p hp) with h | ⟨h, -⟩
      · exact absurd h (not_lt.2 hs.le)
      · exact h.symm
    exact ⟨Nat.zero_le _, hp, fun k _ hk => hv ▸ hs.best k (hall k hk)⟩

/-- The index of the best score, as the second component of what the search ends with. -/
theorem pick_eq (s : Vec Ideal S16384x8192 .f32) : pick s = fun j =>
    (Host.argReduce (F := Ideal) (φ := .f32) reducer_argmax_f32_i32 s (iotaInDim S16384x8192 32 1) (constant S_ .f32 0xFF800000#32) (constantI S_ 32 0#32)
      reducesTo_S16384x8192_S16384_d1 h_S_ j).2 := rfl

/-- The search returns the first position of the row's greatest score. -/
theorem pick_best (s : Vec Ideal S16384x8192 .f32) (r : Fin 16384) :
    ∃ i, pick s (ix1 r) = BitVec.ofNat 32 i ∧ Best (row s r) 0 8192 i := by
  obtain ⟨v, i, e, h⟩ := search_best s r
  exact ⟨i, (congrFun (pick_eq s) (ix1 r)).trans (congrArg Prod.snd e), h⟩

end Cert.ReferenceIdeal.Plain

end

end
-- ==== Proof.RefValue.lean ====
/- The reference's results at an index: the nearest code of every row, and what the first and the third result hold of it. -/
module

public import proofs.«01_k».proof.Proof.RefPick

@[expose] public section

set_option maxRecDepth 16384

noncomputable section

namespace Cert.ReferenceIdeal.Plain

open Cert.ReferenceIdeal Cert.ReferenceIdeal.Gen Cert.FirstBest Idealize.ShloMosaic

/-- Row `b` of batch `a` among all rows. -/
def flatAt (a : Fin 16) (b : Fin 1024) : Fin 16384 := ⟨a.val * 1024 + b.val, by have := a.isLt; have := b.isLt; omega⟩

/-! ## The scores -/

theorem score_apply (x : Vec Ideal S16x1024x32 .f32) (w : Vec Ideal S8192x32 .f32) (r : Fin 16384) (k : Fin 8192) :
    score x w (ix2 r k) = -(rowSq x (ix2 r 0) - Ideal.ofBits FTy.f32 1073741824#32 * ∑ l : Fin 32, flat x (ix2 r l) * w (ix2 k l)
      + codeSq w (ix2 0 k)) := by
  pointwise [score]

theorem flat_apply (x : Vec Ideal S16x1024x32 .f32) (a : Fin 16) (b : Fin 1024) (l : Fin 32) :
    flat x (ix2 (flatAt a b) l) = x (ix3 a b l) := by
  have e : flat x (ix2 (flatAt a b) l) = x (ix3 ⟨(flatAt a b).val / 1024, by have := (flatAt a b).isLt; omega⟩
      ⟨(flatAt a b).val % 1024, Nat.mod_lt _ (by decide)⟩ l) := by
    pointwise [flat]
  rw [e]
  congr 1
  have := b.isLt
  have e1 : (⟨(flatAt a b).val / 1024, by have := (flatAt a b).isLt; omega⟩ : Fin 16) = a :=
    Fin.ext (by unfold flatAt; dsimp only; omega)
  have e2 : (⟨(flatAt a b).val % 1024, Nat.mod_lt _ (by decide)⟩ : Fin 1024) = b :=
    Fin.ext (by unfold flatAt; dsimp only; omega)
  rw [e1, e2]

/-! ## The nearest code -/

/-- The code with the greatest score in row `r`. -/
def nearest (x : Vec Ideal S16x1024x32 .f32) (w : Vec Ideal S8192x32 .f32) (r : Fin 16384) : Fin 8192 :=
  ⟨(pick_best (score x w) r).choose, (pick_best (score x w) r).choose_spec.2.lt⟩

theorem pick_nearest (x : Vec Ideal S16x1024x32 .f32) (w : Vec Ideal S8192x32 .f32) (r : Fin 16384) :
    pick (score x w) (ix1 r) = BitVec.ofNat 32 (nearest x w r).val :=
  (pick_best (score x w) r).choose_spec.1

theorem nearest_best (x : Vec Ideal S16x1024x32 .f32) (w : Vec Ideal S8192x32 .f32) (r : Fin 16384) :
    Best (row (score x w) r) 0 8192 (nearest x w r).val :=
  (pick_best (score x w) r).choose_spec.2

theorem reshape_index (v : Vec Ideal S16384 .i32) (a : Fin 16) (b : Fin 1024) :
    shapeCast S16x1024 v shapeCasts_S16384_S16x1024 (ix2 a b) = v (ix1 (flatAt a b)) := by
  pointwise
  rfl

theorem index_apply (x : Vec Ideal S16x1024x32 .f32) (w : Vec Ideal S8192x32 .f32) (a : Fin 16) (b : Fin 1024) :
    index x w (ix2 a b) = BitVec.ofNat 32 (nearest x w (flatAt a b)).val := by
  unfold index
  rw [reshape_index, pick_nearest]

/-! ## The lookup -/

section

variable (i : Vec Ideal S16x1024 .i32) (a : Fin 16) (b : Fin 1024) (k : Fin 8192) (hk : i (ix2 a b) = BitVec.ofNat 32 k.val)

include hk

/-- An index within the codebook is not counted from the end. -/
theorem wrapped_small (z : Fin 1) : wrapped (F := Ideal) i (ix3 a b z) = BitVec.ofNat 32 k.val := by
  have e : wrapped (F := Ideal) i (ix3 a b z)
      = Scalar.select (IntOp.cmpi .slt (i (ix2 a b)) 0#32) (IntOp.addi (i (ix2 a b)) 8192#32) (i (ix2 a b)) := by
    pointwise [wrapped]
  have hs : IntOp.cmpi .slt (BitVec.ofNat 32 k.val) 0#32 = 0#1 := by
    show BitVec.ofBool (BitVec.slt _ _) = _
    have := k.isLt
    rw [BitVec.slt, toInt_small k.val (by omega), show (0#32 : BitVec 32).toInt = 0 by decide, decide_eq_false (by omega)]
    rfl
  rw [e, hk, hs]
  rfl

/-- It lies inside. -/
theorem inside_small : inside (F := Ideal) (wrapped (F := Ideal) i) (ix2 a b) = 1#1 := by
  have e : inside (F := Ideal) (wrapped (F := Ideal) i) (ix2 a b) = Finset.fold IntOp.andi 1#1
      (fun z : Fin 1 => IntOp.andi (IntOp.cmpi .sge (wrapped (F := Ideal) i (ix3 a b z)) 0#32)
        (IntOp.cmpi .sle (wrapped (F := Ideal) i (ix3 a b z)) 8191#32)) Finset.univ := by
    generalize wrapped (F := Ideal) i = v
    pointwise [inside]
  have hlt := k.isLt
  have h1 : IntOp.cmpi .sge (BitVec.ofNat 32 k.val) 0#32 = 1#1 := by
    show BitVec.ofBool (BitVec.sle _ _) = _
    rw [BitVec.sle, toInt_small k.val (by omega)]
    simp
  have h2 : IntOp.cmpi .sle (BitVec.ofNat 32 k.val) 8191#32 = 1#1 := by
    show BitVec.ofBool (BitVec.sle _ _) = _
    rw [BitVec.sle, toInt_small k.val (by omega), show (8191#32 : BitVec 32).toInt = 8191 by decide,
      decide_eq_true (by omega)]
    rfl
  simp only [wrapped_small i a b k hk, h1, h2] at e
  rw [e]
  rfl

end

/-- The lookup reads the operand at the row its index names. -/
theorem gather_small (w : Vec Ideal S8192x32 .f32) (v : IVec S16x1024x1 32) (a : Fin 16) (b : Fin 1024) (l : Fin 32) (k : Fin 8192)
    (hk : v (ix3 a b 0) = BitVec.ofNat 32 k.val) :
    Host.gather gather_S8192x32_S16x1024x1_S16x1024x32_2_0_n_n_0_2_132 w v (ix3 a b l) = w (ix2 k l) := by
  have hlt := k.isLt
  unfold Host.gather
  congr 1
  funext d
  apply Fin.ext
  show GatherDims.start _ (ix3 a b l) v d + GatherDims.batchCoord _ (ix3 a b l) d + GatherDims.offCoord _ (ix3 a b l) d = _
  have h01 : d = 0 ∨ d = 1 := by
    match d with
    | ⟨0, _⟩ => exact .inl rfl
    | ⟨1, _⟩ => exact .inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl)), Nat.add_zero]
    unfold GatherDims.start
    have hm : (0 : Fin S8192x32.rank) ∈ GatherDims.startIndexMap gather_S8192x32_S16x1024x1_S16x1024x32_2_0_n_n_0_2_132 := List.mem_singleton.mpr rfl
    rw [dif_pos hm]
    have hsi : ∀ z, GatherDims.siIdx gather_S8192x32_S16x1024x1_S16x1024x32_2_0_n_n_0_2_132 (ix3 a b l) z = ix3 a b 0 := fun z => by
      funext e
      apply Fin.ext
      match e with
      | ⟨0, _⟩ => rfl
      | ⟨1, _⟩ => rfl
      | ⟨2, _⟩ => exact Nat.lt_one_iff.1 (Fin.isLt _)
    rw [hsi, hk, toInt_small k.val (by omega)]
    show min (k.val : ℤ).toNat (8192 - 1) = k.val
    rw [Int.toNat_natCast]
    omega
  · rw [GatherDims.batchCoord_eq_zero _ _ _ List.not_mem_nil]
    unfold GatherDims.start
    have hn : (1 : Fin S8192x32.rank) ∉ GatherDims.startIndexMap gather_S8192x32_S16x1024x1_S16x1024x32_2_0_n_n_0_2_132 :=
      fun h => absurd (List.mem_singleton.mp h) (by decide)
    rw [dif_neg hn, Nat.zero_add]
    unfold GatherDims.offCoord
    have hk : (1 : Fin S8192x32.rank) ∈ GatherDims.sKept gather_S8192x32_S16x1024x1_S16x1024x32_2_0_n_n_0_2_132 :=
      (GatherDims.mem_sKept _ _).mpr ⟨fun h => absurd (List.mem_singleton.mp h) (by decide), List.not_mem_nil⟩
    rw [dif_pos hk]
    rfl

theorem take_small (w : Vec Ideal S8192x32 .f32) (i : Vec Ideal S16x1024 .i32) (a : Fin 16) (b : Fin 1024) (l : Fin 32) (k : Fin 8192)
    (hk : i (ix2 a b) = BitVec.ofNat 32 k.val) : take w i (ix3 a b l) = w (ix2 k l) := by
  have e : take w i (ix3 a b l) = Scalar.select (inside (F := Ideal) (wrapped (F := Ideal) i) (ix2 a b))
      (Host.gather gather_S8192x32_S16x1024x1_S16x1024x32_2_0_n_n_0_2_132 w (wrapped (F := Ideal) i) (ix3 a b l))
      (Ideal.ofBits FTy.f32 0x7FC00000#32) := by
    unfold take
    generalize wrapped (F := Ideal) i = v
    generalize inside (F := Ideal) v = u
    generalize Host.gather gather_S8192x32_S16x1024x1_S16x1024x32_2_0_n_n_0_2_132 w v = g
    pointwise
  rw [e, inside_small i a b k hk, gather_small w _ a b l k (wrapped_small i a b k hk 0)]
  rfl

theorem quantised_apply (x : Vec Ideal S16x1024x32 .f32) (w : Vec Ideal S8192x32 .f32) (a : Fin 16) (b : Fin 1024) (l : Fin 32) :
    quantised x w (ix3 a b l) = w (ix2 (nearest x w (flatAt a b)) l) :=
  take_small w (index x w) a b l _ (index_apply x w a b)

/-! ## The first and the third result -/

theorem moved_apply (q x : Vec Ideal S16x1024x32 .f32) (a : Fin 16) (b : Fin 1024) (l : Fin 32) :
    addf (F := Ideal) (φ := .f32) (subf (F := Ideal) (φ := .f32) q x) x (ix3 a b l) = q (ix3 a b l) - x (ix3 a b l) + x (ix3 a b l) := by
  pointwise

theorem feat_apply (x : Vec Ideal S16x1024x32 .f32) (w : Vec Ideal S8192x32 .f32) (a : Fin 16) (b : Fin 1024) (l : Fin 32) :
    feat x w (ix3 a b l) = w (ix2 (nearest x w (flatAt a b)) l) - x (ix3 a b l) + x (ix3 a b l) := by
  rw [← quantised_apply x w a b l]
  exact moved_apply (quantised x w) x a b l

theorem mean_apply (q x : Vec Ideal S16x1024x32 .f32) :
    Host.divf (F := Ideal) (φ := .f32) (Host.reduceAdd (F := Ideal) (φ := .f32)
        (mulf (F := Ideal) (φ := .f32) (subf (F := Ideal) (φ := .f32) x q) (subf (F := Ideal) (φ := .f32) x q))
        (constant S_ .f32 0x00000000#32) reducesTo_S16x1024x32_S_d0_1_2 h_S_) (constant S_ .f32 0x49000000#32) ix0
      = Ideal.div (∑ a : Fin 16, ∑ b : Fin 1024, ∑ l : Fin 32, (x (ix3 a b l) - q (ix3 a b l)) * (x (ix3 a b l) - q (ix3 a b l)))
        (Ideal.ofBits FTy.f32 0x49000000#32) := by
  pointwise

theorem meanSq_apply (x : Vec Ideal S16x1024x32 .f32) (w : Vec Ideal S8192x32 .f32) :
    meanSq x w ix0 = Ideal.div (∑ a : Fin 16, ∑ b : Fin 1024, ∑ l : Fin 32,
        (x (ix3 a b l) - w (ix2 (nearest x w (flatAt a b)) l)) * (x (ix3 a b l) - w (ix2 (nearest x w (flatAt a b)) l)))
      (Ideal.ofBits FTy.f32 0x49000000#32) := by
  simp only [← quantised_apply x w]
  exact mean_apply (quantised x w) x

end Cert.ReferenceIdeal.Plain

end

end
-- ==== Proof.Equation.lean ====
/- The kernel's three results are the reference's. -/
module

public import proofs.«01_k».proof.Proof.HostReads
public import proofs.«01_k».proof.Proof.SearchValue
public import proofs.«01_k».proof.Proof.LookupValue
public import proofs.«01_k».proof.Proof.RefValue

@[expose] public section

set_option maxRecDepth 16384

noncomputable section

namespace Cert.KernelIdeal.Whole

open Cert.KernelIdeal Cert.KernelIdeal.Gen Cert.FirstBest
open Idealize.ShloMosaic Idealize.ShloMosaic.TcCoe
open Cert.ReferenceIdeal.Plain (nearest flatAt)

/-- A sum over consecutive blocks of 1024. -/
theorem sum_blocks (f : ℕ → EReal) (k : ℕ) :
    ∑ n ∈ Finset.range (k * 1024), f n = ∑ a ∈ Finset.range k, ∑ b : Fin 1024, f (a * 1024 + b.val) := by
  induction k with
  | zero => rw [Nat.zero_mul, Finset.sum_range_zero, Finset.sum_range_zero]
  | succ k ih =>
    rw [show (k + 1) * 1024 = k * 1024 + 1024 by omega, Finset.sum_range_add, ih, Finset.sum_range_succ _ k,
      Fin.sum_univ_eq_sum_range (fun b => f (k * 1024 + b)) 1024]

variable (m : (ℓ : Loc nD τ sig) → Buf (Elt Ideal) ℓ) (c : Dev nD)

/-! ## The index array -/

/-- Row `r` of block `q`. -/
def rowIn (q : Fin 64) (r : Fin 256) : Fin 16384 := ⟨q.val * 256 + r.val, by have := q.isLt; have := r.isLt; omega⟩

/-- The two programs score a row alike. -/
theorem row_eq (r : Fin 16384) :
    Search.row (atSearch m) c r = Cert.ReferenceIdeal.Plain.row (Cert.ReferenceIdeal.Plain.score (argX m c) (argW m c)) r := by
  funext k
  unfold Search.row Cert.ReferenceIdeal.Plain.row
  by_cases hk : k < 8192
  · rw [dif_pos hk, dif_pos hk, Cert.ReferenceIdeal.Plain.score_apply]
    unfold Search.score
    rw [search_rows, search_rowSqs, search_codeSqs, search_codes, zero_sub]
  · rw [dif_neg hk, dif_neg hk]

theorem written_apply (q : Fin 64) (r : Fin 256) :
    Search.written (atSearch m) c (ix3 q r 0) = BitVec.ofNat 32 (nearest (argX m c) (argW m c) (rowIn q r)).val := by
  have hq := q.isLt
  obtain ⟨i, hb, he⟩ := Search.emitted_best (atSearch m) c (8 * q.val + 7) (by omega) (by omega) r
  have hr : Search.rowAt (Search.pt (8 * q.val + 7)) r = rowIn q r := Fin.ext (by
    show (8 * q.val + 7) % 512 / 8 * 256 + r.val = q.val * 256 + r.val
    omega)
  rw [hr, row_eq] at hb
  rw [← Best.unique hb (Cert.ReferenceIdeal.Plain.nearest_best (argX m c) (argW m c) (rowIn q r))]
  exact he

/-- The second call reads the reference's indices. -/
theorem holds : Lookup.Holds (atLookup m) c (nearest (argX m c) (argW m c)) := fun t r => by
  rw [lookup_indices, written_apply]
  rfl

theorem reshape_written (v : Vec Ideal S64x256x1 .i32) (a : Fin 16) (b : Fin 1024) :
    shapeCast S16x1024 v shapeCasts_S64x256x1_S16x1024 (ix2 a b)
      = v (ix3 ⟨a.val * 4 + b.val / 256, by have := a.isLt; have := b.isLt; omega⟩ ⟨b.val % 256, Nat.mod_lt _ (by decide)⟩ 0) := by
  pointwise

theorem index_eq : final m c main_v11 = Cert.ReferenceIdeal.Plain.index (argX m c) (argW m c) := by
  rw [final_index]
  funext j
  obtain ⟨a, b, rfl⟩ : ∃ (a : Fin 16) (b : Fin 1024), j = ix2 a b := ⟨j 0, j 1, eq_ix2 j⟩
  rw [reshape_written, written_apply]
  refine Eq.trans ?_ (Cert.ReferenceIdeal.Plain.index_apply (argX m c) (argW m c) a b).symm
  congr 3
  refine Fin.ext ?_
  show (a.val * 4 + b.val / 256) * 256 + b.val % 256 = a.val * 1024 + b.val
  omega

/-! ## The moved rows -/

theorem moved_apply (n : Fin 16384) (l : Fin 32) :
    Lookup.moved (atLookup m) c (ix2 n l) = argW m c (ix2 (nearest (argX m c) (argW m c) n) l)
      - Cert.ReferenceIdeal.Plain.flat (argX m c) (ix2 n l) + Cert.ReferenceIdeal.Plain.flat (argX m c) (ix2 n l) := by
  have hn := n.isLt
  have e := Lookup.lookOut_last (atLookup m) c (holds m c) (8 * (n.val / 256) + 7) (by omega) (by omega)
    ⟨n.val % 256, Nat.mod_lt _ (by decide)⟩ l
  have hr : Lookup.rowAt (Lookup.pt (8 * (n.val / 256) + 7)) ⟨n.val % 256, Nat.mod_lt _ (by decide)⟩ = n := Fin.ext (by
    show (8 * (n.val / 256) + 7) % 512 / 8 * 256 + n.val % 256 = n.val
    omega)
  rw [hr, lookup_rows, lookup_codes] at e
  exact e

theorem reshape_moved (v : Vec Ideal S16384x32 .f32) (a : Fin 16) (b : Fin 1024) (l : Fin 32) :
    shapeCast S16x1024x32 v shapeCasts_S16384x32_S16x1024x32 (ix3 a b l) = v (ix2 (flatAt a b) l) := by
  pointwise
  rfl

theorem feat_eq : final m c main_v10 = Cert.ReferenceIdeal.Plain.feat (argX m c) (argW m c) := by
  rw [final_feat]
  funext j
  obtain ⟨a, b, l, rfl⟩ : ∃ (a : Fin 16) (b : Fin 1024) (l : Fin 32), j = ix3 a b l := ⟨j 0, j 1, j 2, eq_ix3 j⟩
  rw [reshape_moved, moved_apply, Cert.ReferenceIdeal.Plain.flat_apply]
  exact (Cert.ReferenceIdeal.Plain.feat_apply (argX m c) (argW m c) a b l).symm

/-! ## The mean of the squared differences -/

theorem rowDiff_apply (a : Fin 16) (b : Fin 1024) :
    Lookup.rowDiff (atLookup m) c (nearest (argX m c) (argW m c)) (a.val * 1024 + b.val)
      = ∑ l : Fin 32, (argX m c (ix3 a b l) - argW m c (ix2 (nearest (argX m c) (argW m c) (flatAt a b)) l))
        * (argX m c (ix3 a b l) - argW m c (ix2 (nearest (argX m c) (argW m c) (flatAt a b)) l)) := by
  have hn : a.val * 1024 + b.val < 16384 := (flatAt a b).isLt
  rw [Lookup.rowDiff, dif_pos hn, lookup_rows, lookup_codes]
  refine Finset.sum_congr rfl fun l _ => ?_
  rw [show (⟨a.val * 1024 + b.val, hn⟩ : Fin 16384) = flatAt a b from rfl, Cert.ReferenceIdeal.Plain.flat_apply]

theorem sum_eq : Lookup.sumSq (atLookup m) c 64 (ix2 0 0)
    = ∑ a : Fin 16, ∑ b : Fin 1024, ∑ l : Fin 32,
        (argX m c (ix3 a b l) - argW m c (ix2 (nearest (argX m c) (argW m c) (flatAt a b)) l))
        * (argX m c (ix3 a b l) - argW m c (ix2 (nearest (argX m c) (argW m c) (flatAt a b)) l)) := by
  rw [Lookup.sumSq_eq (atLookup m) c (holds m c) 64 (le_refl _), show 64 * 256 = 16 * 1024 from rfl, sum_blocks,
    ← Fin.sum_univ_eq_sum_range
      (fun a => ∑ b : Fin 1024, Lookup.rowDiff (atLookup m) c (nearest (argX m c) (argW m c)) (a * 1024 + b.val)) 16]
  exact Finset.sum_congr rfl fun a _ => Finset.sum_congr rfl fun b _ => rowDiff_apply m c a b

theorem divided (v : Vec Ideal S1x1 .f32) :
    Host.divf (F := Ideal) (φ := .f32) (shapeCast S_ v shapeCasts_S1x1_S_) (constant S_ .f32 0x49000000#32) ix0
      = Ideal.div (v (ix2 0 0)) (Ideal.ofBits FTy.f32 0x49000000#32) := by
  pointwise

theorem mean_eq : final m c main_v13 = Cert.ReferenceIdeal.Plain.meanSq (argX m c) (argW m c) := by
  rw [final_mean]
  funext j
  obtain rfl : j = ix0 := funext fun a => a.elim0
  refine (divided _).trans ?_
  rw [sum_eq]
  exact (Cert.ReferenceIdeal.Plain.meanSq_apply (argX m c) (argW m c)).symm

end Cert.KernelIdeal.Whole

end

end
-- ==== Proof.lean ====
/- The claims of this certificate, assembled from the modules under Proof/. -/
module

public import proofs.«01_k».proof.Defs
public import proofs.«01_k».proof.Proof.Transfer
public import proofs.«01_k».proof.Proof.Reference
public import proofs.«01_k».proof.Proof.Equation

@[expose] public section

noncomputable section

namespace Cert.Proof

open Idealize.ShloMosaic Idealize.SL.Sem
open Cert.ReferenceIdeal.Plain (feat index meanSq)

/-- The reference ends with its arguments unchanged and every counter at zero. -/
theorem reference_frame : Cert.quiescent_ReferenceIdeal (hReferenceIdeal := Cert.ReferenceIdeal.Gen.facts) := fun m ρ _ =>
  (θ_run _ _ _).mono (fun _ h => ⟨fun c => ⟨(h.1 c).2.2.2.1, (h.1 c).2.2.2.2⟩, h.2⟩) (Cert.ReferenceIdeal.Plain.run m ρ)

section

open Cert.KernelIdeal Cert.KernelIdeal.Gen Cert.KernelIdeal.Whole

/-- The kernel ends with the reference's three values of its own arguments, which it leaves unchanged. -/
theorem kernel_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = feat (F := Ideal) (argX m c) (argW m c)
      ∧ r.2.mem ((c.tc : Thread nD τ).loc main_v11) = index (F := Ideal) (argX m c) (argW m c)
      ∧ r.2.mem ((c.tc : Thread nD τ).loc main_v13) = meanSq (F := Ideal) (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
    ⟨(h.1 c _ (mem_ucRefs main_v10 (by decide))).trans (feat_eq m c),
      (h.1 c _ (mem_ucRefs main_v11 (by decide))).trans (index_eq m c),
      (h.1 c _ (mem_ucRefs main_v13 (by decide))).trans (mean_eq m c),
      (h.1 c _ (mem_ucRefs main_arg0 (by decide))).trans (final_arg0 m c),
      (h.1 c _ (mem_ucRefs main_arg1 (by decide))).trans (final_arg1 m c)⟩) (run_values m ρ)

end

/-- From memories agreeing on the arguments the two programs end with equal results. -/
theorem equal_results : Cert.algebraic_KernelIdeal_ReferenceIdeal (hKernelIdeal := Cert.KernelIdeal.Gen.facts)
    (hReferenceIdeal := Cert.ReferenceIdeal.Gen.facts) := fun m g m' g' _ hargs => by
  have hx : ∀ c, Cert.ReferenceIdeal.Plain.argX m' c = Cert.KernelIdeal.Whole.argX m c := fun c => (hargs c).1
  have hw : ∀ c, Cert.ReferenceIdeal.Plain.argW m' c = Cert.KernelIdeal.Whole.argW m c := fun c => (hargs c).2
  refine ⟨fun c => feat (F := Ideal) (Cert.KernelIdeal.Whole.argX m c) (Cert.KernelIdeal.Whole.argW m c),
    fun c => index (F := Ideal) (Cert.KernelIdeal.Whole.argX m c) (Cert.KernelIdeal.Whole.argW m c),
    fun c => meanSq (F := Ideal) (Cert.KernelIdeal.Whole.argX m c) (Cert.KernelIdeal.Whole.argW m c), kernel_values m g, ?_⟩
  refine (θ_run _ _ _).mono (fun r h c => ?_) (Cert.ReferenceIdeal.Plain.run m' g')
  obtain ⟨h0, h1, h2, h3, h4⟩ := h.1 c
  rw [hx, hw] at h0 h1 h2
  exact ⟨h0, h1, h2, h3, h4⟩

theorem claim : Cert.Claim := ⟨Cert.Kernel.Gen.facts, Cert.KernelIdeal.Gen.facts, Cert.ReferenceIdeal.Gen.facts,
  fun m ρ _ => Cert.Transfer.kernel_frame m ρ, fun m ρ _ => Cert.KernelIdeal.Whole.frame m ρ, reference_frame, trivial, equal_results⟩

end Cert.Proof

end
